-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S2816x1024 : Shape := ⟨2, ![2816, 1024]⟩
abbrev S11 : Shape := ⟨1, ![11]⟩
abbrev S_ : Shape := ⟨0, ![]⟩
abbrev S1 : Shape := ⟨1, ![1]⟩
abbrev S256x1024 : Shape := ⟨2, ![256, 1024]⟩

abbrev nBuf : Space → Nat
  | .hbm => 2
  | .vmem => 3
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .local _ .vmem, ⟨0, _⟩ => ⟨S8192x1024, .bf16⟩
  | .local _ .vmem, ⟨1, _⟩ => ⟨S8192x1024, .bf16⟩
  | .local _ .vmem, ⟨2, _⟩ => ⟨S2816x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_7 : BitVec 32 := 4#32
  let v13 : BitVec 32 := Scalar.muli v2 c4_i32_7
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v15 : BitVec 32 := Scalar.muli v5 c2_i32_8
  let v16 : BitVec 32 := Scalar.addi v14 v15
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_3 v8
  let c1_i32_9 : BitVec 32 := 1#32
  let v17 : BitVec 32 := Scalar.muli v10 c1_i32_9
  let v18 : BitVec 32 := Scalar.addi v16 v17
  v18.toNat
def k0_dev2 (d0 : Dev nD) : Nat :=
  let c0_i32_12 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_11 : BitVec 32 := 4#32
  let v19 : BitVec 32 := Scalar.muli v11 c4_i32_11
  let v20 : BitVec 32 := Scalar.addi c0_i32_12 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v21 : BitVec 32 := Scalar.muli v5 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_18 : BitVec 32 := 2#32
  let v27 : BitVec 32 := Scalar.muli v12 c2_i32_18
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v29 : BitVec 32 := Scalar.muli v8 c1_i32_19
  let v30 : BitVec 32 := Scalar.addi v28 v29
  v30.toNat
def k0_cond1 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_20 : BitVec 32 := 0#32
  let v31 : BitVec 1 := Scalar.cmpi .eq v2 c0_i32_20
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_21 : BitVec 32 := 0#32
  let v32 : BitVec 1 := Scalar.cmpi .eq v5 c0_i32_21
  let v33 : BitVec 1 := Scalar.andi v31 v32
  let v34 : BitVec 32 := Scalar.extui v33
  let c0_i32_22 : BitVec 32 := 0#32
  let v35 : BitVec 1 := Scalar.cmpi .ne v34 c0_i32_22
  v35

def k0_dev4 (d0 : Dev nD) : Nat :=
  let c0_i32_38 : BitVec 32 := 0#32
  let c0_i32_35 : BitVec 32 := 0#32
  let c4_i32_37 : BitVec 32 := 4#32
  let v52 : BitVec 32 := Scalar.muli c0_i32_35 c4_i32_37
  let v53 : BitVec 32 := Scalar.addi c0_i32_38 v52
  let c0_i32_36 : BitVec 32 := 0#32
  let c2_i32_39 : BitVec 32 := 2#32
  let v54 : BitVec 32 := Scalar.muli c0_i32_36 c2_i32_39
  let v55 : BitVec 32 := Scalar.addi v53 v54
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_40 : BitVec 32 := 1#32
  let v56 : BitVec 32 := Scalar.muli v51 c1_i32_40
  let v57 : BitVec 32 := Scalar.addi v55 v56
  v57.toNat
def k0_dev5 (d0 : Dev nD) : Nat :=
  let c0_i32_50 : BitVec 32 := 0#32
  let c0_i32_47 : BitVec 32 := 0#32
  let c4_i32_49 : BitVec 32 := 4#32
  let v64 : BitVec 32 := Scalar.muli c0_i32_47 c4_i32_49
  let v65 : BitVec 32 := Scalar.addi c0_i32_50 v64
  let c0_i32_48 : BitVec 32 := 0#32
  let c2_i32_51 : BitVec 32 := 2#32
  let v66 : BitVec 32 := Scalar.muli c0_i32_48 c2_i32_51
  let v67 : BitVec 32 := Scalar.addi v65 v66
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_52 : BitVec 32 := 1#32
  let v68 : BitVec 32 := Scalar.muli v51 c1_i32_52
  let v69 : BitVec 32 := Scalar.addi v67 v68
  v69.toNat
def k0_dev6 (d0 : Dev nD) : Nat :=
  let c0_i32_61 : BitVec 32 := 0#32
  let c0_i32_58 : BitVec 32 := 0#32
  let c4_i32_60 : BitVec 32 := 4#32
  let v76 : BitVec 32 := Scalar.muli c0_i32_58 c4_i32_60
  let v77 : BitVec 32 := Scalar.addi c0_i32_61 v76
  let c0_i32_59 : BitVec 32 := 0#32
  let c2_i32_62 : BitVec 32 := 2#32
  let v78 : BitVec 32 := Scalar.muli c0_i32_59 c2_i32_62
  let v79 : BitVec 32 := Scalar.addi v77 v78
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_63 : BitVec 32 := 1#32
  let v80 : BitVec 32 := Scalar.muli v51 c1_i32_63
  let v81 : BitVec 32 := Scalar.addi v79 v80
  v81.toNat
def k0_dev7 (d0 : Dev nD) : Nat :=
  let c0_i32_72 : BitVec 32 := 0#32
  let c0_i32_69 : BitVec 32 := 0#32
  let c4_i32_71 : BitVec 32 := 4#32
  let v88 : BitVec 32 := Scalar.muli c0_i32_69 c4_i32_71
  let v89 : BitVec 32 := Scalar.addi c0_i32_72 v88
  let c0_i32_70 : BitVec 32 := 0#32
  let c2_i32_73 : BitVec 32 := 2#32
  let v90 : BitVec 32 := Scalar.muli c0_i32_70 c2_i32_73
  let v91 : BitVec 32 := Scalar.addi v89 v90
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_74 : BitVec 32 := 1#32
  let v92 : BitVec 32 := Scalar.muli v51 c1_i32_74
  let v93 : BitVec 32 := Scalar.addi v91 v92
  v93.toNat
def k0_dev8 (d0 : Dev nD) : Nat :=
  let c0_i32_83 : BitVec 32 := 0#32
  let c0_i32_80 : BitVec 32 := 0#32
  let c4_i32_82 : BitVec 32 := 4#32
  let v100 : BitVec 32 := Scalar.muli c0_i32_80 c4_i32_82
  let v101 : BitVec 32 := Scalar.addi c0_i32_83 v100
  let c0_i32_81 : BitVec 32 := 0#32
  let c2_i32_84 : BitVec 32 := 2#32
  let v102 : BitVec 32 := Scalar.muli c0_i32_81 c2_i32_84
  let v103 : BitVec 32 := Scalar.addi v101 v102
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_85 : BitVec 32 := 1#32
  let v104 : BitVec 32 := Scalar.muli v51 c1_i32_85
  let v105 : BitVec 32 := Scalar.addi v103 v104
  v105.toNat
def k0_dev9 (d0 : Dev nD) : Nat :=
  let c0_i32_93 : BitVec 32 := 0#32
  let c0_i32_90 : BitVec 32 := 0#32
  let c4_i32_92 : BitVec 32 := 4#32
  let v112 : BitVec 32 := Scalar.muli c0_i32_90 c4_i32_92
  let v113 : BitVec 32 := Scalar.addi c0_i32_93 v112
  let c0_i32_91 : BitVec 32 := 0#32
  let c2_i32_94 : BitVec 32 := 2#32
  let v114 : BitVec 32 := Scalar.muli c0_i32_91 c2_i32_94
  let v115 : BitVec 32 := Scalar.addi v113 v114
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_95 : BitVec 32 := 1#32
  let v116 : BitVec 32 := Scalar.muli v51 c1_i32_95
  let v117 : BitVec 32 := Scalar.addi v115 v116
  v117.toNat
def k0_dev10 (d0 : Dev nD) : Nat :=
  let c0_i32_103 : BitVec 32 := 0#32
  let c0_i32_100 : BitVec 32 := 0#32
  let c4_i32_102 : BitVec 32 := 4#32
  let v124 : BitVec 32 := Scalar.muli c0_i32_100 c4_i32_102
  let v125 : BitVec 32 := Scalar.addi c0_i32_103 v124
  let c0_i32_101 : BitVec 32 := 0#32
  let c2_i32_104 : BitVec 32 := 2#32
  let v126 : BitVec 32 := Scalar.muli c0_i32_101 c2_i32_104
  let v127 : BitVec 32 := Scalar.addi v125 v126
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_105 : BitVec 32 := 1#32
  let v128 : BitVec 32 := Scalar.muli v51 c1_i32_105
  let v129 : BitVec 32 := Scalar.addi v127 v128
  v129.toNat
def k0_dev11 (d0 : Dev nD) : Nat :=
  let c0_i32_113 : BitVec 32 := 0#32
  let c0_i32_110 : BitVec 32 := 0#32
  let c4_i32_112 : BitVec 32 := 4#32
  let v136 : BitVec 32 := Scalar.muli c0_i32_110 c4_i32_112
  let v137 : BitVec 32 := Scalar.addi c0_i32_113 v136
  let c0_i32_111 : BitVec 32 := 0#32
  let c2_i32_114 : BitVec 32 := 2#32
  let v138 : BitVec 32 := Scalar.muli c0_i32_111 c2_i32_114
  let v139 : BitVec 32 := Scalar.addi v137 v138
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_115 : BitVec 32 := 1#32
  let v140 : BitVec 32 := Scalar.muli v51 c1_i32_115
  let v141 : BitVec 32 := Scalar.addi v139 v140
  v141.toNat
def k0_dev12 (d0 : Dev nD) : Nat :=
  let c0_i32_123 : BitVec 32 := 0#32
  let c0_i32_120 : BitVec 32 := 0#32
  let c4_i32_122 : BitVec 32 := 4#32
  let v148 : BitVec 32 := Scalar.muli c0_i32_120 c4_i32_122
  let v149 : BitVec 32 := Scalar.addi c0_i32_123 v148
  let c0_i32_121 : BitVec 32 := 0#32
  let c2_i32_124 : BitVec 32 := 2#32
  let v150 : BitVec 32 := Scalar.muli c0_i32_121 c2_i32_124
  let v151 : BitVec 32 := Scalar.addi v149 v150
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_125 : BitVec 32 := 1#32
  let v152 : BitVec 32 := Scalar.muli v51 c1_i32_125
  let v153 : BitVec 32 := Scalar.addi v151 v152
  v153.toNat
def k0_dev13 (d0 : Dev nD) : Nat :=
  let c0_i32_133 : BitVec 32 := 0#32
  let c0_i32_130 : BitVec 32 := 0#32
  let c4_i32_132 : BitVec 32 := 4#32
  let v160 : BitVec 32 := Scalar.muli c0_i32_130 c4_i32_132
  let v161 : BitVec 32 := Scalar.addi c0_i32_133 v160
  let c0_i32_131 : BitVec 32 := 0#32
  let c2_i32_134 : BitVec 32 := 2#32
  let v162 : BitVec 32 := Scalar.muli c0_i32_131 c2_i32_134
  let v163 : BitVec 32 := Scalar.addi v161 v162
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_135 : BitVec 32 := 1#32
  let v164 : BitVec 32 := Scalar.muli v51 c1_i32_135
  let v165 : BitVec 32 := Scalar.addi v163 v164
  v165.toNat
def k0_dev14 (d0 : Dev nD) : Nat :=
  let c0_i32_143 : BitVec 32 := 0#32
  let c0_i32_140 : BitVec 32 := 0#32
  let c4_i32_142 : BitVec 32 := 4#32
  let v172 : BitVec 32 := Scalar.muli c0_i32_140 c4_i32_142
  let v173 : BitVec 32 := Scalar.addi c0_i32_143 v172
  let c0_i32_141 : BitVec 32 := 0#32
  let c2_i32_144 : BitVec 32 := 2#32
  let v174 : BitVec 32 := Scalar.muli c0_i32_141 c2_i32_144
  let v175 : BitVec 32 := Scalar.addi v173 v174
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_145 : BitVec 32 := 1#32
  let v176 : BitVec 32 := Scalar.muli v51 c1_i32_145
  let v177 : BitVec 32 := Scalar.addi v175 v176
  v177.toNat
def k0_dev15 (d0 : Dev nD) : Nat :=
  let c0_i32_180 : BitVec 32 := 0#32
  let c1_i32_177 : BitVec 32 := 1#32
  let c4_i32_179 : BitVec 32 := 4#32
  let v203 : BitVec 32 := Scalar.muli c1_i32_177 c4_i32_179
  let v204 : BitVec 32 := Scalar.addi c0_i32_180 v203
  let c0_i32_178 : BitVec 32 := 0#32
  let c2_i32_181 : BitVec 32 := 2#32
  let v205 : BitVec 32 := Scalar.muli c0_i32_178 c2_i32_181
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_182 : BitVec 32 := 1#32
  let v207 : BitVec 32 := Scalar.muli v8 c1_i32_182
  let v208 : BitVec 32 := Scalar.addi v206 v207
  v208.toNat
def k0_dev16 (d0 : Dev nD) : Nat :=
  let c0_i32_203 : BitVec 32 := 0#32
  let c0_i32_200 : BitVec 32 := 0#32
  let c4_i32_202 : BitVec 32 := 4#32
  let v225 : BitVec 32 := Scalar.muli c0_i32_200 c4_i32_202
  let v226 : BitVec 32 := Scalar.addi c0_i32_203 v225
  let c1_i32_201 : BitVec 32 := 1#32
  let c2_i32_204 : BitVec 32 := 2#32
  let v227 : BitVec 32 := Scalar.muli c1_i32_201 c2_i32_204
  let v228 : BitVec 32 := Scalar.addi v226 v227
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_205 : BitVec 32 := 1#32
  let v229 : BitVec 32 := Scalar.muli v8 c1_i32_205
  let v230 : BitVec 32 := Scalar.addi v228 v229
  v230.toNat
def k0_dev17 (d0 : Dev nD) : Nat :=
  let c0_i32_241 : BitVec 32 := 0#32
  let c1_i32_238 : BitVec 32 := 1#32
  let c4_i32_240 : BitVec 32 := 4#32
  let v256 : BitVec 32 := Scalar.muli c1_i32_238 c4_i32_240
  let v257 : BitVec 32 := Scalar.addi c0_i32_241 v256
  let c0_i32_239 : BitVec 32 := 0#32
  let c2_i32_242 : BitVec 32 := 2#32
  let v258 : BitVec 32 := Scalar.muli c0_i32_239 c2_i32_242
  let v259 : BitVec 32 := Scalar.addi v257 v258
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_243 : BitVec 32 := 1#32
  let v260 : BitVec 32 := Scalar.muli v8 c1_i32_243
  let v261 : BitVec 32 := Scalar.addi v259 v260
  v261.toNat
def k0_dev18 (d0 : Dev nD) : Nat :=
  let c0_i32_264 : BitVec 32 := 0#32
  let c0_i32_261 : BitVec 32 := 0#32
  let c4_i32_263 : BitVec 32 := 4#32
  let v278 : BitVec 32 := Scalar.muli c0_i32_261 c4_i32_263
  let v279 : BitVec 32 := Scalar.addi c0_i32_264 v278
  let c1_i32_262 : BitVec 32 := 1#32
  let c2_i32_265 : BitVec 32 := 2#32
  let v280 : BitVec 32 := Scalar.muli c1_i32_262 c2_i32_265
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_266 : BitVec 32 := 1#32
  let v282 : BitVec 32 := Scalar.muli v8 c1_i32_266
  let v283 : BitVec 32 := Scalar.addi v281 v282
  v283.toNat
def k0_dev19 (d0 : Dev nD) : Nat :=
  let c0_i32_302 : BitVec 32 := 0#32
  let c1_i32_299 : BitVec 32 := 1#32
  let c4_i32_301 : BitVec 32 := 4#32
  let v309 : BitVec 32 := Scalar.muli c1_i32_299 c4_i32_301
  let v310 : BitVec 32 := Scalar.addi c0_i32_302 v309
  let c0_i32_300 : BitVec 32 := 0#32
  let c2_i32_303 : BitVec 32 := 2#32
  let v311 : BitVec 32 := Scalar.muli c0_i32_300 c2_i32_303
  let v312 : BitVec 32 := Scalar.addi v310 v311
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_304 : BitVec 32 := 1#32
  let v313 : BitVec 32 := Scalar.muli v8 c1_i32_304
  let v314 : BitVec 32 := Scalar.addi v312 v313
  v314.toNat
def k0_dev20 (d0 : Dev nD) : Nat :=
  let c0_i32_325 : BitVec 32 := 0#32
  let c0_i32_322 : BitVec 32 := 0#32
  let c4_i32_324 : BitVec 32 := 4#32
  let v331 : BitVec 32 := Scalar.muli c0_i32_322 c4_i32_324
  let v332 : BitVec 32 := Scalar.addi c0_i32_325 v331
  let c1_i32_323 : BitVec 32 := 1#32
  let c2_i32_326 : BitVec 32 := 2#32
  let v333 : BitVec 32 := Scalar.muli c1_i32_323 c2_i32_326
  let v334 : BitVec 32 := Scalar.addi v332 v333
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_327 : BitVec 32 := 1#32
  let v335 : BitVec 32 := Scalar.muli v8 c1_i32_327
  let v336 : BitVec 32 := Scalar.addi v334 v335
  v336.toNat
def k0_dev21 (d0 : Dev nD) : Nat :=
  let c0_i32_363 : BitVec 32 := 0#32
  let c1_i32_360 : BitVec 32 := 1#32
  let c4_i32_362 : BitVec 32 := 4#32
  let v362 : BitVec 32 := Scalar.muli c1_i32_360 c4_i32_362
  let v363 : BitVec 32 := Scalar.addi c0_i32_363 v362
  let c0_i32_361 : BitVec 32 := 0#32
  let c2_i32_364 : BitVec 32 := 2#32
  let v364 : BitVec 32 := Scalar.muli c0_i32_361 c2_i32_364
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_365 : BitVec 32 := 1#32
  let v366 : BitVec 32 := Scalar.muli v8 c1_i32_365
  let v367 : BitVec 32 := Scalar.addi v365 v366
  v367.toNat
def k0_dev22 (d0 : Dev nD) : Nat :=
  let c0_i32_386 : BitVec 32 := 0#32
  let c0_i32_383 : BitVec 32 := 0#32
  let c4_i32_385 : BitVec 32 := 4#32
  let v384 : BitVec 32 := Scalar.muli c0_i32_383 c4_i32_385
  let v385 : BitVec 32 := Scalar.addi c0_i32_386 v384
  let c1_i32_384 : BitVec 32 := 1#32
  let c2_i32_387 : BitVec 32 := 2#32
  let v386 : BitVec 32 := Scalar.muli c1_i32_384 c2_i32_387
  let v387 : BitVec 32 := Scalar.addi v385 v386
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_388 : BitVec 32 := 1#32
  let v388 : BitVec 32 := Scalar.muli v8 c1_i32_388
  let v389 : BitVec 32 := Scalar.addi v387 v388
  v389.toNat
def k0_dev23 (d0 : Dev nD) : Nat :=
  let c0_i32_424 : BitVec 32 := 0#32
  let c1_i32_421 : BitVec 32 := 1#32
  let c4_i32_423 : BitVec 32 := 4#32
  let v415 : BitVec 32 := Scalar.muli c1_i32_421 c4_i32_423
  let v416 : BitVec 32 := Scalar.addi c0_i32_424 v415
  let c0_i32_422 : BitVec 32 := 0#32
  let c2_i32_425 : BitVec 32 := 2#32
  let v417 : BitVec 32 := Scalar.muli c0_i32_422 c2_i32_425
  let v418 : BitVec 32 := Scalar.addi v416 v417
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_426 : BitVec 32 := 1#32
  let v419 : BitVec 32 := Scalar.muli v8 c1_i32_426
  let v420 : BitVec 32 := Scalar.addi v418 v419
  v420.toNat
def k0_dev24 (d0 : Dev nD) : Nat :=
  let c0_i32_447 : BitVec 32 := 0#32
  let c0_i32_444 : BitVec 32 := 0#32
  let c4_i32_446 : BitVec 32 := 4#32
  let v437 : BitVec 32 := Scalar.muli c0_i32_444 c4_i32_446
  let v438 : BitVec 32 := Scalar.addi c0_i32_447 v437
  let c1_i32_445 : BitVec 32 := 1#32
  let c2_i32_448 : BitVec 32 := 2#32
  let v439 : BitVec 32 := Scalar.muli c1_i32_445 c2_i32_448
  let v440 : BitVec 32 := Scalar.addi v438 v439
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_449 : BitVec 32 := 1#32
  let v441 : BitVec 32 := Scalar.muli v8 c1_i32_449
  let v442 : BitVec 32 := Scalar.addi v440 v441
  v442.toNat
def k0_dev25 (d0 : Dev nD) : Nat :=
  let c0_i32_485 : BitVec 32 := 0#32
  let c1_i32_482 : BitVec 32 := 1#32
  let c4_i32_484 : BitVec 32 := 4#32
  let v468 : BitVec 32 := Scalar.muli c1_i32_482 c4_i32_484
  let v469 : BitVec 32 := Scalar.addi c0_i32_485 v468
  let c0_i32_483 : BitVec 32 := 0#32
  let c2_i32_486 : BitVec 32 := 2#32
  let v470 : BitVec 32 := Scalar.muli c0_i32_483 c2_i32_486
  let v471 : BitVec 32 := Scalar.addi v469 v470
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_487 : BitVec 32 := 1#32
  let v472 : BitVec 32 := Scalar.muli v8 c1_i32_487
  let v473 : BitVec 32 := Scalar.addi v471 v472
  v473.toNat
def k0_dev26 (d0 : Dev nD) : Nat :=
  let c0_i32_508 : BitVec 32 := 0#32
  let c0_i32_505 : BitVec 32 := 0#32
  let c4_i32_507 : BitVec 32 := 4#32
  let v490 : BitVec 32 := Scalar.muli c0_i32_505 c4_i32_507
  let v491 : BitVec 32 := Scalar.addi c0_i32_508 v490
  let c1_i32_506 : BitVec 32 := 1#32
  let c2_i32_509 : BitVec 32 := 2#32
  let v492 : BitVec 32 := Scalar.muli c1_i32_506 c2_i32_509
  let v493 : BitVec 32 := Scalar.addi v491 v492
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_510 : BitVec 32 := 1#32
  let v494 : BitVec 32 := Scalar.muli v8 c1_i32_510
  let v495 : BitVec 32 := Scalar.addi v493 v494
  v495.toNat
def k0_dev27 (d0 : Dev nD) : Nat :=
  let c0_i32_546 : BitVec 32 := 0#32
  let c1_i32_543 : BitVec 32 := 1#32
  let c4_i32_545 : BitVec 32 := 4#32
  let v521 : BitVec 32 := Scalar.muli c1_i32_543 c4_i32_545
  let v522 : BitVec 32 := Scalar.addi c0_i32_546 v521
  let c0_i32_544 : BitVec 32 := 0#32
  let c2_i32_547 : BitVec 32 := 2#32
  let v523 : BitVec 32 := Scalar.muli c0_i32_544 c2_i32_547
  let v524 : BitVec 32 := Scalar.addi v522 v523
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_548 : BitVec 32 := 1#32
  let v525 : BitVec 32 := Scalar.muli v8 c1_i32_548
  let v526 : BitVec 32 := Scalar.addi v524 v525
  v526.toNat
def k0_dev28 (d0 : Dev nD) : Nat :=
  let c0_i32_569 : BitVec 32 := 0#32
  let c0_i32_566 : BitVec 32 := 0#32
  let c4_i32_568 : BitVec 32 := 4#32
  let v543 : BitVec 32 := Scalar.muli c0_i32_566 c4_i32_568
  let v544 : BitVec 32 := Scalar.addi c0_i32_569 v543
  let c1_i32_567 : BitVec 32 := 1#32
  let c2_i32_570 : BitVec 32 := 2#32
  let v545 : BitVec 32 := Scalar.muli c1_i32_567 c2_i32_570
  let v546 : BitVec 32 := Scalar.addi v544 v545
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_571 : BitVec 32 := 1#32
  let v547 : BitVec 32 := Scalar.muli v8 c1_i32_571
  let v548 : BitVec 32 := Scalar.addi v546 v547
  v548.toNat
def k0_dev29 (d0 : Dev nD) : Nat :=
  let c0_i32_607 : BitVec 32 := 0#32
  let c1_i32_604 : BitVec 32 := 1#32
  let c4_i32_606 : BitVec 32 := 4#32
  let v574 : BitVec 32 := Scalar.muli c1_i32_604 c4_i32_606
  let v575 : BitVec 32 := Scalar.addi c0_i32_607 v574
  let c0_i32_605 : BitVec 32 := 0#32
  let c2_i32_608 : BitVec 32 := 2#32
  let v576 : BitVec 32 := Scalar.muli c0_i32_605 c2_i32_608
  let v577 : BitVec 32 := Scalar.addi v575 v576
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_609 : BitVec 32 := 1#32
  let v578 : BitVec 32 := Scalar.muli v8 c1_i32_609
  let v579 : BitVec 32 := Scalar.addi v577 v578
  v579.toNat
def k0_dev30 (d0 : Dev nD) : Nat :=
  let c0_i32_630 : BitVec 32 := 0#32
  let c0_i32_627 : BitVec 32 := 0#32
  let c4_i32_629 : BitVec 32 := 4#32
  let v596 : BitVec 32 := Scalar.muli c0_i32_627 c4_i32_629
  let v597 : BitVec 32 := Scalar.addi c0_i32_630 v596
  let c1_i32_628 : BitVec 32 := 1#32
  let c2_i32_631 : BitVec 32 := 2#32
  let v598 : BitVec 32 := Scalar.muli c1_i32_628 c2_i32_631
  let v599 : BitVec 32 := Scalar.addi v597 v598
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_632 : BitVec 32 := 1#32
  let v600 : BitVec 32 := Scalar.muli v8 c1_i32_632
  let v601 : BitVec 32 := Scalar.addi v599 v600
  v601.toNat
def k0_dev31 (d0 : Dev nD) : Nat :=
  let c0_i32_668 : BitVec 32 := 0#32
  let c1_i32_665 : BitVec 32 := 1#32
  let c4_i32_667 : BitVec 32 := 4#32
  let v627 : BitVec 32 := Scalar.muli c1_i32_665 c4_i32_667
  let v628 : BitVec 32 := Scalar.addi c0_i32_668 v627
  let c0_i32_666 : BitVec 32 := 0#32
  let c2_i32_669 : BitVec 32 := 2#32
  let v629 : BitVec 32 := Scalar.muli c0_i32_666 c2_i32_669
  let v630 : BitVec 32 := Scalar.addi v628 v629
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_670 : BitVec 32 := 1#32
  let v631 : BitVec 32 := Scalar.muli v8 c1_i32_670
  let v632 : BitVec 32 := Scalar.addi v630 v631
  v632.toNat
def k0_dev32 (d0 : Dev nD) : Nat :=
  let c0_i32_691 : BitVec 32 := 0#32
  let c0_i32_688 : BitVec 32 := 0#32
  let c4_i32_690 : BitVec 32 := 4#32
  let v649 : BitVec 32 := Scalar.muli c0_i32_688 c4_i32_690
  let v650 : BitVec 32 := Scalar.addi c0_i32_691 v649
  let c1_i32_689 : BitVec 32 := 1#32
  let c2_i32_692 : BitVec 32 := 2#32
  let v651 : BitVec 32 := Scalar.muli c1_i32_689 c2_i32_692
  let v652 : BitVec 32 := Scalar.addi v650 v651
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_693 : BitVec 32 := 1#32
  let v653 : BitVec 32 := Scalar.muli v8 c1_i32_693
  let v654 : BitVec 32 := Scalar.addi v652 v653
  v654.toNat
def k0_dev33 (d0 : Dev nD) : Nat :=
  let c0_i32_729 : BitVec 32 := 0#32
  let c1_i32_726 : BitVec 32 := 1#32
  let c4_i32_728 : BitVec 32 := 4#32
  let v680 : BitVec 32 := Scalar.muli c1_i32_726 c4_i32_728
  let v681 : BitVec 32 := Scalar.addi c0_i32_729 v680
  let c0_i32_727 : BitVec 32 := 0#32
  let c2_i32_730 : BitVec 32 := 2#32
  let v682 : BitVec 32 := Scalar.muli c0_i32_727 c2_i32_730
  let v683 : BitVec 32 := Scalar.addi v681 v682
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_731 : BitVec 32 := 1#32
  let v684 : BitVec 32 := Scalar.muli v8 c1_i32_731
  let v685 : BitVec 32 := Scalar.addi v683 v684
  v685.toNat
def k0_dev34 (d0 : Dev nD) : Nat :=
  let c0_i32_752 : BitVec 32 := 0#32
  let c0_i32_749 : BitVec 32 := 0#32
  let c4_i32_751 : BitVec 32 := 4#32
  let v702 : BitVec 32 := Scalar.muli c0_i32_749 c4_i32_751
  let v703 : BitVec 32 := Scalar.addi c0_i32_752 v702
  let c1_i32_750 : BitVec 32 := 1#32
  let c2_i32_753 : BitVec 32 := 2#32
  let v704 : BitVec 32 := Scalar.muli c1_i32_750 c2_i32_753
  let v705 : BitVec 32 := Scalar.addi v703 v704
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_754 : BitVec 32 := 1#32
  let v706 : BitVec 32 := Scalar.muli v8 c1_i32_754
  let v707 : BitVec 32 := Scalar.addi v705 v706
  v707.toNat
def k0_dev35 (d0 : Dev nD) : Nat :=
  let c0_i32_790 : BitVec 32 := 0#32
  let c1_i32_787 : BitVec 32 := 1#32
  let c4_i32_789 : BitVec 32 := 4#32
  let v733 : BitVec 32 := Scalar.muli c1_i32_787 c4_i32_789
  let v734 : BitVec 32 := Scalar.addi c0_i32_790 v733
  let c0_i32_788 : BitVec 32 := 0#32
  let c2_i32_791 : BitVec 32 := 2#32
  let v735 : BitVec 32 := Scalar.muli c0_i32_788 c2_i32_791
  let v736 : BitVec 32 := Scalar.addi v734 v735
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_792 : BitVec 32 := 1#32
  let v737 : BitVec 32 := Scalar.muli v8 c1_i32_792
  let v738 : BitVec 32 := Scalar.addi v736 v737
  v738.toNat
def k0_cond2 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_23 : BitVec 32 := 0#32
  let v36 : BitVec 1 := Scalar.cmpi .eq v2 c0_i32_23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_24 : BitVec 32 := 1#32
  let v37 : BitVec 1 := Scalar.cmpi .eq v5 c1_i32_24
  let v38 : BitVec 1 := Scalar.andi v36 v37
  let v39 : BitVec 32 := Scalar.extui v38
  let c0_i32_25 : BitVec 32 := 0#32
  let v40 : BitVec 1 := Scalar.cmpi .ne v39 c0_i32_25
  v40

def k0_dev36 (d0 : Dev nD) : Nat :=
  let c0_i32_38 : BitVec 32 := 0#32
  let c0_i32_35 : BitVec 32 := 0#32
  let c4_i32_37 : BitVec 32 := 4#32
  let v52 : BitVec 32 := Scalar.muli c0_i32_35 c4_i32_37
  let v53 : BitVec 32 := Scalar.addi c0_i32_38 v52
  let c1_i32_36 : BitVec 32 := 1#32
  let c2_i32_39 : BitVec 32 := 2#32
  let v54 : BitVec 32 := Scalar.muli c1_i32_36 c2_i32_39
  let v55 : BitVec 32 := Scalar.addi v53 v54
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_40 : BitVec 32 := 1#32
  let v56 : BitVec 32 := Scalar.muli v51 c1_i32_40
  let v57 : BitVec 32 := Scalar.addi v55 v56
  v57.toNat
def k0_dev37 (d0 : Dev nD) : Nat :=
  let c0_i32_49 : BitVec 32 := 0#32
  let c0_i32_46 : BitVec 32 := 0#32
  let c4_i32_48 : BitVec 32 := 4#32
  let v64 : BitVec 32 := Scalar.muli c0_i32_46 c4_i32_48
  let v65 : BitVec 32 := Scalar.addi c0_i32_49 v64
  let c1_i32_47 : BitVec 32 := 1#32
  let c2_i32_50 : BitVec 32 := 2#32
  let v66 : BitVec 32 := Scalar.muli c1_i32_47 c2_i32_50
  let v67 : BitVec 32 := Scalar.addi v65 v66
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_51 : BitVec 32 := 1#32
  let v68 : BitVec 32 := Scalar.muli v51 c1_i32_51
  let v69 : BitVec 32 := Scalar.addi v67 v68
  v69.toNat
def k0_dev38 (d0 : Dev nD) : Nat :=
  let c0_i32_59 : BitVec 32 := 0#32
  let c0_i32_56 : BitVec 32 := 0#32
  let c4_i32_58 : BitVec 32 := 4#32
  let v76 : BitVec 32 := Scalar.muli c0_i32_56 c4_i32_58
  let v77 : BitVec 32 := Scalar.addi c0_i32_59 v76
  let c1_i32_57 : BitVec 32 := 1#32
  let c2_i32_60 : BitVec 32 := 2#32
  let v78 : BitVec 32 := Scalar.muli c1_i32_57 c2_i32_60
  let v79 : BitVec 32 := Scalar.addi v77 v78
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_61 : BitVec 32 := 1#32
  let v80 : BitVec 32 := Scalar.muli v51 c1_i32_61
  let v81 : BitVec 32 := Scalar.addi v79 v80
  v81.toNat
def k0_dev39 (d0 : Dev nD) : Nat :=
  let c0_i32_69 : BitVec 32 := 0#32
  let c0_i32_66 : BitVec 32 := 0#32
  let c4_i32_68 : BitVec 32 := 4#32
  let v88 : BitVec 32 := Scalar.muli c0_i32_66 c4_i32_68
  let v89 : BitVec 32 := Scalar.addi c0_i32_69 v88
  let c1_i32_67 : BitVec 32 := 1#32
  let c2_i32_70 : BitVec 32 := 2#32
  let v90 : BitVec 32 := Scalar.muli c1_i32_67 c2_i32_70
  let v91 : BitVec 32 := Scalar.addi v89 v90
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_71 : BitVec 32 := 1#32
  let v92 : BitVec 32 := Scalar.muli v51 c1_i32_71
  let v93 : BitVec 32 := Scalar.addi v91 v92
  v93.toNat
def k0_dev40 (d0 : Dev nD) : Nat :=
  let c0_i32_79 : BitVec 32 := 0#32
  let c0_i32_76 : BitVec 32 := 0#32
  let c4_i32_78 : BitVec 32 := 4#32
  let v100 : BitVec 32 := Scalar.muli c0_i32_76 c4_i32_78
  let v101 : BitVec 32 := Scalar.addi c0_i32_79 v100
  let c1_i32_77 : BitVec 32 := 1#32
  let c2_i32_80 : BitVec 32 := 2#32
  let v102 : BitVec 32 := Scalar.muli c1_i32_77 c2_i32_80
  let v103 : BitVec 32 := Scalar.addi v101 v102
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_81 : BitVec 32 := 1#32
  let v104 : BitVec 32 := Scalar.muli v51 c1_i32_81
  let v105 : BitVec 32 := Scalar.addi v103 v104
  v105.toNat
def k0_dev41 (d0 : Dev nD) : Nat :=
  let c0_i32_88 : BitVec 32 := 0#32
  let c0_i32_85 : BitVec 32 := 0#32
  let c4_i32_87 : BitVec 32 := 4#32
  let v112 : BitVec 32 := Scalar.muli c0_i32_85 c4_i32_87
  let v113 : BitVec 32 := Scalar.addi c0_i32_88 v112
  let c1_i32_86 : BitVec 32 := 1#32
  let c2_i32_89 : BitVec 32 := 2#32
  let v114 : BitVec 32 := Scalar.muli c1_i32_86 c2_i32_89
  let v115 : BitVec 32 := Scalar.addi v113 v114
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_90 : BitVec 32 := 1#32
  let v116 : BitVec 32 := Scalar.muli v51 c1_i32_90
  let v117 : BitVec 32 := Scalar.addi v115 v116
  v117.toNat
def k0_dev42 (d0 : Dev nD) : Nat :=
  let c0_i32_97 : BitVec 32 := 0#32
  let c0_i32_94 : BitVec 32 := 0#32
  let c4_i32_96 : BitVec 32 := 4#32
  let v124 : BitVec 32 := Scalar.muli c0_i32_94 c4_i32_96
  let v125 : BitVec 32 := Scalar.addi c0_i32_97 v124
  let c1_i32_95 : BitVec 32 := 1#32
  let c2_i32_98 : BitVec 32 := 2#32
  let v126 : BitVec 32 := Scalar.muli c1_i32_95 c2_i32_98
  let v127 : BitVec 32 := Scalar.addi v125 v126
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_99 : BitVec 32 := 1#32
  let v128 : BitVec 32 := Scalar.muli v51 c1_i32_99
  let v129 : BitVec 32 := Scalar.addi v127 v128
  v129.toNat
def k0_dev43 (d0 : Dev nD) : Nat :=
  let c0_i32_106 : BitVec 32 := 0#32
  let c0_i32_103 : BitVec 32 := 0#32
  let c4_i32_105 : BitVec 32 := 4#32
  let v136 : BitVec 32 := Scalar.muli c0_i32_103 c4_i32_105
  let v137 : BitVec 32 := Scalar.addi c0_i32_106 v136
  let c1_i32_104 : BitVec 32 := 1#32
  let c2_i32_107 : BitVec 32 := 2#32
  let v138 : BitVec 32 := Scalar.muli c1_i32_104 c2_i32_107
  let v139 : BitVec 32 := Scalar.addi v137 v138
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_108 : BitVec 32 := 1#32
  let v140 : BitVec 32 := Scalar.muli v51 c1_i32_108
  let v141 : BitVec 32 := Scalar.addi v139 v140
  v141.toNat
def k0_dev44 (d0 : Dev nD) : Nat :=
  let c0_i32_115 : BitVec 32 := 0#32
  let c0_i32_112 : BitVec 32 := 0#32
  let c4_i32_114 : BitVec 32 := 4#32
  let v148 : BitVec 32 := Scalar.muli c0_i32_112 c4_i32_114
  let v149 : BitVec 32 := Scalar.addi c0_i32_115 v148
  let c1_i32_113 : BitVec 32 := 1#32
  let c2_i32_116 : BitVec 32 := 2#32
  let v150 : BitVec 32 := Scalar.muli c1_i32_113 c2_i32_116
  let v151 : BitVec 32 := Scalar.addi v149 v150
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_117 : BitVec 32 := 1#32
  let v152 : BitVec 32 := Scalar.muli v51 c1_i32_117
  let v153 : BitVec 32 := Scalar.addi v151 v152
  v153.toNat
def k0_dev45 (d0 : Dev nD) : Nat :=
  let c0_i32_124 : BitVec 32 := 0#32
  let c0_i32_121 : BitVec 32 := 0#32
  let c4_i32_123 : BitVec 32 := 4#32
  let v160 : BitVec 32 := Scalar.muli c0_i32_121 c4_i32_123
  let v161 : BitVec 32 := Scalar.addi c0_i32_124 v160
  let c1_i32_122 : BitVec 32 := 1#32
  let c2_i32_125 : BitVec 32 := 2#32
  let v162 : BitVec 32 := Scalar.muli c1_i32_122 c2_i32_125
  let v163 : BitVec 32 := Scalar.addi v161 v162
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_126 : BitVec 32 := 1#32
  let v164 : BitVec 32 := Scalar.muli v51 c1_i32_126
  let v165 : BitVec 32 := Scalar.addi v163 v164
  v165.toNat
def k0_dev46 (d0 : Dev nD) : Nat :=
  let c0_i32_133 : BitVec 32 := 0#32
  let c0_i32_130 : BitVec 32 := 0#32
  let c4_i32_132 : BitVec 32 := 4#32
  let v172 : BitVec 32 := Scalar.muli c0_i32_130 c4_i32_132
  let v173 : BitVec 32 := Scalar.addi c0_i32_133 v172
  let c1_i32_131 : BitVec 32 := 1#32
  let c2_i32_134 : BitVec 32 := 2#32
  let v174 : BitVec 32 := Scalar.muli c1_i32_131 c2_i32_134
  let v175 : BitVec 32 := Scalar.addi v173 v174
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_135 : BitVec 32 := 1#32
  let v176 : BitVec 32 := Scalar.muli v51 c1_i32_135
  let v177 : BitVec 32 := Scalar.addi v175 v176
  v177.toNat
def k0_dev47 (d0 : Dev nD) : Nat :=
  let c0_i32_168 : BitVec 32 := 0#32
  let c1_i32_165 : BitVec 32 := 1#32
  let c4_i32_167 : BitVec 32 := 4#32
  let v203 : BitVec 32 := Scalar.muli c1_i32_165 c4_i32_167
  let v204 : BitVec 32 := Scalar.addi c0_i32_168 v203
  let c1_i32_166 : BitVec 32 := 1#32
  let c2_i32_169 : BitVec 32 := 2#32
  let v205 : BitVec 32 := Scalar.muli c1_i32_166 c2_i32_169
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_170 : BitVec 32 := 1#32
  let v207 : BitVec 32 := Scalar.muli v8 c1_i32_170
  let v208 : BitVec 32 := Scalar.addi v206 v207
  v208.toNat
def k0_dev48 (d0 : Dev nD) : Nat :=
  let c0_i32_180 : BitVec 32 := 0#32
  let c0_i32_177 : BitVec 32 := 0#32
  let c4_i32_179 : BitVec 32 := 4#32
  let v215 : BitVec 32 := Scalar.muli c0_i32_177 c4_i32_179
  let v216 : BitVec 32 := Scalar.addi c0_i32_180 v215
  let c0_i32_178 : BitVec 32 := 0#32
  let c2_i32_181 : BitVec 32 := 2#32
  let v217 : BitVec 32 := Scalar.muli c0_i32_178 c2_i32_181
  let v218 : BitVec 32 := Scalar.addi v216 v217
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_182 : BitVec 32 := 1#32
  let v219 : BitVec 32 := Scalar.muli v8 c1_i32_182
  let v220 : BitVec 32 := Scalar.addi v218 v219
  v220.toNat
def k0_dev49 (d0 : Dev nD) : Nat :=
  let c0_i32_217 : BitVec 32 := 0#32
  let c1_i32_214 : BitVec 32 := 1#32
  let c4_i32_216 : BitVec 32 := 4#32
  let v246 : BitVec 32 := Scalar.muli c1_i32_214 c4_i32_216
  let v247 : BitVec 32 := Scalar.addi c0_i32_217 v246
  let c1_i32_215 : BitVec 32 := 1#32
  let c2_i32_218 : BitVec 32 := 2#32
  let v248 : BitVec 32 := Scalar.muli c1_i32_215 c2_i32_218
  let v249 : BitVec 32 := Scalar.addi v247 v248
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_219 : BitVec 32 := 1#32
  let v250 : BitVec 32 := Scalar.muli v8 c1_i32_219
  let v251 : BitVec 32 := Scalar.addi v249 v250
  v251.toNat
def k0_dev50 (d0 : Dev nD) : Nat :=
  let c0_i32_229 : BitVec 32 := 0#32
  let c0_i32_226 : BitVec 32 := 0#32
  let c4_i32_228 : BitVec 32 := 4#32
  let v258 : BitVec 32 := Scalar.muli c0_i32_226 c4_i32_228
  let v259 : BitVec 32 := Scalar.addi c0_i32_229 v258
  let c0_i32_227 : BitVec 32 := 0#32
  let c2_i32_230 : BitVec 32 := 2#32
  let v260 : BitVec 32 := Scalar.muli c0_i32_227 c2_i32_230
  let v261 : BitVec 32 := Scalar.addi v259 v260
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_231 : BitVec 32 := 1#32
  let v262 : BitVec 32 := Scalar.muli v8 c1_i32_231
  let v263 : BitVec 32 := Scalar.addi v261 v262
  v263.toNat
def k0_dev51 (d0 : Dev nD) : Nat :=
  let c0_i32_266 : BitVec 32 := 0#32
  let c1_i32_263 : BitVec 32 := 1#32
  let c4_i32_265 : BitVec 32 := 4#32
  let v289 : BitVec 32 := Scalar.muli c1_i32_263 c4_i32_265
  let v290 : BitVec 32 := Scalar.addi c0_i32_266 v289
  let c1_i32_264 : BitVec 32 := 1#32
  let c2_i32_267 : BitVec 32 := 2#32
  let v291 : BitVec 32 := Scalar.muli c1_i32_264 c2_i32_267
  let v292 : BitVec 32 := Scalar.addi v290 v291
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_268 : BitVec 32 := 1#32
  let v293 : BitVec 32 := Scalar.muli v8 c1_i32_268
  let v294 : BitVec 32 := Scalar.addi v292 v293
  v294.toNat
def k0_dev52 (d0 : Dev nD) : Nat :=
  let c0_i32_278 : BitVec 32 := 0#32
  let c0_i32_275 : BitVec 32 := 0#32
  let c4_i32_277 : BitVec 32 := 4#32
  let v301 : BitVec 32 := Scalar.muli c0_i32_275 c4_i32_277
  let v302 : BitVec 32 := Scalar.addi c0_i32_278 v301
  let c0_i32_276 : BitVec 32 := 0#32
  let c2_i32_279 : BitVec 32 := 2#32
  let v303 : BitVec 32 := Scalar.muli c0_i32_276 c2_i32_279
  let v304 : BitVec 32 := Scalar.addi v302 v303
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_280 : BitVec 32 := 1#32
  let v305 : BitVec 32 := Scalar.muli v8 c1_i32_280
  let v306 : BitVec 32 := Scalar.addi v304 v305
  v306.toNat
def k0_dev53 (d0 : Dev nD) : Nat :=
  let c0_i32_315 : BitVec 32 := 0#32
  let c1_i32_312 : BitVec 32 := 1#32
  let c4_i32_314 : BitVec 32 := 4#32
  let v332 : BitVec 32 := Scalar.muli c1_i32_312 c4_i32_314
  let v333 : BitVec 32 := Scalar.addi c0_i32_315 v332
  let c1_i32_313 : BitVec 32 := 1#32
  let c2_i32_316 : BitVec 32 := 2#32
  let v334 : BitVec 32 := Scalar.muli c1_i32_313 c2_i32_316
  let v335 : BitVec 32 := Scalar.addi v333 v334
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_317 : BitVec 32 := 1#32
  let v336 : BitVec 32 := Scalar.muli v8 c1_i32_317
  let v337 : BitVec 32 := Scalar.addi v335 v336
  v337.toNat
def k0_dev54 (d0 : Dev nD) : Nat :=
  let c0_i32_327 : BitVec 32 := 0#32
  let c0_i32_324 : BitVec 32 := 0#32
  let c4_i32_326 : BitVec 32 := 4#32
  let v344 : BitVec 32 := Scalar.muli c0_i32_324 c4_i32_326
  let v345 : BitVec 32 := Scalar.addi c0_i32_327 v344
  let c0_i32_325 : BitVec 32 := 0#32
  let c2_i32_328 : BitVec 32 := 2#32
  let v346 : BitVec 32 := Scalar.muli c0_i32_325 c2_i32_328
  let v347 : BitVec 32 := Scalar.addi v345 v346
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_329 : BitVec 32 := 1#32
  let v348 : BitVec 32 := Scalar.muli v8 c1_i32_329
  let v349 : BitVec 32 := Scalar.addi v347 v348
  v349.toNat
def k0_dev55 (d0 : Dev nD) : Nat :=
  let c0_i32_364 : BitVec 32 := 0#32
  let c1_i32_361 : BitVec 32 := 1#32
  let c4_i32_363 : BitVec 32 := 4#32
  let v375 : BitVec 32 := Scalar.muli c1_i32_361 c4_i32_363
  let v376 : BitVec 32 := Scalar.addi c0_i32_364 v375
  let c1_i32_362 : BitVec 32 := 1#32
  let c2_i32_365 : BitVec 32 := 2#32
  let v377 : BitVec 32 := Scalar.muli c1_i32_362 c2_i32_365
  let v378 : BitVec 32 := Scalar.addi v376 v377
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_366 : BitVec 32 := 1#32
  let v379 : BitVec 32 := Scalar.muli v8 c1_i32_366
  let v380 : BitVec 32 := Scalar.addi v378 v379
  v380.toNat
def k0_dev56 (d0 : Dev nD) : Nat :=
  let c0_i32_376 : BitVec 32 := 0#32
  let c0_i32_373 : BitVec 32 := 0#32
  let c4_i32_375 : BitVec 32 := 4#32
  let v387 : BitVec 32 := Scalar.muli c0_i32_373 c4_i32_375
  let v388 : BitVec 32 := Scalar.addi c0_i32_376 v387
  let c0_i32_374 : BitVec 32 := 0#32
  let c2_i32_377 : BitVec 32 := 2#32
  let v389 : BitVec 32 := Scalar.muli c0_i32_374 c2_i32_377
  let v390 : BitVec 32 := Scalar.addi v388 v389
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_378 : BitVec 32 := 1#32
  let v391 : BitVec 32 := Scalar.muli v8 c1_i32_378
  let v392 : BitVec 32 := Scalar.addi v390 v391
  v392.toNat
def k0_dev57 (d0 : Dev nD) : Nat :=
  let c0_i32_413 : BitVec 32 := 0#32
  let c1_i32_410 : BitVec 32 := 1#32
  let c4_i32_412 : BitVec 32 := 4#32
  let v418 : BitVec 32 := Scalar.muli c1_i32_410 c4_i32_412
  let v419 : BitVec 32 := Scalar.addi c0_i32_413 v418
  let c1_i32_411 : BitVec 32 := 1#32
  let c2_i32_414 : BitVec 32 := 2#32
  let v420 : BitVec 32 := Scalar.muli c1_i32_411 c2_i32_414
  let v421 : BitVec 32 := Scalar.addi v419 v420
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_415 : BitVec 32 := 1#32
  let v422 : BitVec 32 := Scalar.muli v8 c1_i32_415
  let v423 : BitVec 32 := Scalar.addi v421 v422
  v423.toNat
def k0_dev58 (d0 : Dev nD) : Nat :=
  let c0_i32_425 : BitVec 32 := 0#32
  let c0_i32_422 : BitVec 32 := 0#32
  let c4_i32_424 : BitVec 32 := 4#32
  let v430 : BitVec 32 := Scalar.muli c0_i32_422 c4_i32_424
  let v431 : BitVec 32 := Scalar.addi c0_i32_425 v430
  let c0_i32_423 : BitVec 32 := 0#32
  let c2_i32_426 : BitVec 32 := 2#32
  let v432 : BitVec 32 := Scalar.muli c0_i32_423 c2_i32_426
  let v433 : BitVec 32 := Scalar.addi v431 v432
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_427 : BitVec 32 := 1#32
  let v434 : BitVec 32 := Scalar.muli v8 c1_i32_427
  let v435 : BitVec 32 := Scalar.addi v433 v434
  v435.toNat
def k0_dev59 (d0 : Dev nD) : Nat :=
  let c0_i32_462 : BitVec 32 := 0#32
  let c1_i32_459 : BitVec 32 := 1#32
  let c4_i32_461 : BitVec 32 := 4#32
  let v461 : BitVec 32 := Scalar.muli c1_i32_459 c4_i32_461
  let v462 : BitVec 32 := Scalar.addi c0_i32_462 v461
  let c1_i32_460 : BitVec 32 := 1#32
  let c2_i32_463 : BitVec 32 := 2#32
  let v463 : BitVec 32 := Scalar.muli c1_i32_460 c2_i32_463
  let v464 : BitVec 32 := Scalar.addi v462 v463
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_464 : BitVec 32 := 1#32
  let v465 : BitVec 32 := Scalar.muli v8 c1_i32_464
  let v466 : BitVec 32 := Scalar.addi v464 v465
  v466.toNat
def k0_dev60 (d0 : Dev nD) : Nat :=
  let c0_i32_474 : BitVec 32 := 0#32
  let c0_i32_471 : BitVec 32 := 0#32
  let c4_i32_473 : BitVec 32 := 4#32
  let v473 : BitVec 32 := Scalar.muli c0_i32_471 c4_i32_473
  let v474 : BitVec 32 := Scalar.addi c0_i32_474 v473
  let c0_i32_472 : BitVec 32 := 0#32
  let c2_i32_475 : BitVec 32 := 2#32
  let v475 : BitVec 32 := Scalar.muli c0_i32_472 c2_i32_475
  let v476 : BitVec 32 := Scalar.addi v474 v475
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_476 : BitVec 32 := 1#32
  let v477 : BitVec 32 := Scalar.muli v8 c1_i32_476
  let v478 : BitVec 32 := Scalar.addi v476 v477
  v478.toNat
def k0_dev61 (d0 : Dev nD) : Nat :=
  let c0_i32_511 : BitVec 32 := 0#32
  let c1_i32_508 : BitVec 32 := 1#32
  let c4_i32_510 : BitVec 32 := 4#32
  let v504 : BitVec 32 := Scalar.muli c1_i32_508 c4_i32_510
  let v505 : BitVec 32 := Scalar.addi c0_i32_511 v504
  let c1_i32_509 : BitVec 32 := 1#32
  let c2_i32_512 : BitVec 32 := 2#32
  let v506 : BitVec 32 := Scalar.muli c1_i32_509 c2_i32_512
  let v507 : BitVec 32 := Scalar.addi v505 v506
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_513 : BitVec 32 := 1#32
  let v508 : BitVec 32 := Scalar.muli v8 c1_i32_513
  let v509 : BitVec 32 := Scalar.addi v507 v508
  v509.toNat
def k0_dev62 (d0 : Dev nD) : Nat :=
  let c0_i32_523 : BitVec 32 := 0#32
  let c0_i32_520 : BitVec 32 := 0#32
  let c4_i32_522 : BitVec 32 := 4#32
  let v516 : BitVec 32 := Scalar.muli c0_i32_520 c4_i32_522
  let v517 : BitVec 32 := Scalar.addi c0_i32_523 v516
  let c0_i32_521 : BitVec 32 := 0#32
  let c2_i32_524 : BitVec 32 := 2#32
  let v518 : BitVec 32 := Scalar.muli c0_i32_521 c2_i32_524
  let v519 : BitVec 32 := Scalar.addi v517 v518
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_525 : BitVec 32 := 1#32
  let v520 : BitVec 32 := Scalar.muli v8 c1_i32_525
  let v521 : BitVec 32 := Scalar.addi v519 v520
  v521.toNat
def k0_dev63 (d0 : Dev nD) : Nat :=
  let c0_i32_560 : BitVec 32 := 0#32
  let c1_i32_557 : BitVec 32 := 1#32
  let c4_i32_559 : BitVec 32 := 4#32
  let v547 : BitVec 32 := Scalar.muli c1_i32_557 c4_i32_559
  let v548 : BitVec 32 := Scalar.addi c0_i32_560 v547
  let c1_i32_558 : BitVec 32 := 1#32
  let c2_i32_561 : BitVec 32 := 2#32
  let v549 : BitVec 32 := Scalar.muli c1_i32_558 c2_i32_561
  let v550 : BitVec 32 := Scalar.addi v548 v549
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_562 : BitVec 32 := 1#32
  let v551 : BitVec 32 := Scalar.muli v8 c1_i32_562
  let v552 : BitVec 32 := Scalar.addi v550 v551
  v552.toNat
def k0_dev64 (d0 : Dev nD) : Nat :=
  let c0_i32_572 : BitVec 32 := 0#32
  let c0_i32_569 : BitVec 32 := 0#32
  let c4_i32_571 : BitVec 32 := 4#32
  let v559 : BitVec 32 := Scalar.muli c0_i32_569 c4_i32_571
  let v560 : BitVec 32 := Scalar.addi c0_i32_572 v559
  let c0_i32_570 : BitVec 32 := 0#32
  let c2_i32_573 : BitVec 32 := 2#32
  let v561 : BitVec 32 := Scalar.muli c0_i32_570 c2_i32_573
  let v562 : BitVec 32 := Scalar.addi v560 v561
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_574 : BitVec 32 := 1#32
  let v563 : BitVec 32 := Scalar.muli v8 c1_i32_574
  let v564 : BitVec 32 := Scalar.addi v562 v563
  v564.toNat
def k0_dev65 (d0 : Dev nD) : Nat :=
  let c0_i32_609 : BitVec 32 := 0#32
  let c1_i32_606 : BitVec 32 := 1#32
  let c4_i32_608 : BitVec 32 := 4#32
  let v590 : BitVec 32 := Scalar.muli c1_i32_606 c4_i32_608
  let v591 : BitVec 32 := Scalar.addi c0_i32_609 v590
  let c1_i32_607 : BitVec 32 := 1#32
  let c2_i32_610 : BitVec 32 := 2#32
  let v592 : BitVec 32 := Scalar.muli c1_i32_607 c2_i32_610
  let v593 : BitVec 32 := Scalar.addi v591 v592
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_611 : BitVec 32 := 1#32
  let v594 : BitVec 32 := Scalar.muli v8 c1_i32_611
  let v595 : BitVec 32 := Scalar.addi v593 v594
  v595.toNat
def k0_dev66 (d0 : Dev nD) : Nat :=
  let c0_i32_621 : BitVec 32 := 0#32
  let c0_i32_618 : BitVec 32 := 0#32
  let c4_i32_620 : BitVec 32 := 4#32
  let v602 : BitVec 32 := Scalar.muli c0_i32_618 c4_i32_620
  let v603 : BitVec 32 := Scalar.addi c0_i32_621 v602
  let c0_i32_619 : BitVec 32 := 0#32
  let c2_i32_622 : BitVec 32 := 2#32
  let v604 : BitVec 32 := Scalar.muli c0_i32_619 c2_i32_622
  let v605 : BitVec 32 := Scalar.addi v603 v604
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_623 : BitVec 32 := 1#32
  let v606 : BitVec 32 := Scalar.muli v8 c1_i32_623
  let v607 : BitVec 32 := Scalar.addi v605 v606
  v607.toNat
def k0_dev67 (d0 : Dev nD) : Nat :=
  let c0_i32_658 : BitVec 32 := 0#32
  let c1_i32_655 : BitVec 32 := 1#32
  let c4_i32_657 : BitVec 32 := 4#32
  let v633 : BitVec 32 := Scalar.muli c1_i32_655 c4_i32_657
  let v634 : BitVec 32 := Scalar.addi c0_i32_658 v633
  let c1_i32_656 : BitVec 32 := 1#32
  let c2_i32_659 : BitVec 32 := 2#32
  let v635 : BitVec 32 := Scalar.muli c1_i32_656 c2_i32_659
  let v636 : BitVec 32 := Scalar.addi v634 v635
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_660 : BitVec 32 := 1#32
  let v637 : BitVec 32 := Scalar.muli v8 c1_i32_660
  let v638 : BitVec 32 := Scalar.addi v636 v637
  v638.toNat
def k0_dev68 (d0 : Dev nD) : Nat :=
  let c0_i32_670 : BitVec 32 := 0#32
  let c0_i32_667 : BitVec 32 := 0#32
  let c4_i32_669 : BitVec 32 := 4#32
  let v645 : BitVec 32 := Scalar.muli c0_i32_667 c4_i32_669
  let v646 : BitVec 32 := Scalar.addi c0_i32_670 v645
  let c0_i32_668 : BitVec 32 := 0#32
  let c2_i32_671 : BitVec 32 := 2#32
  let v647 : BitVec 32 := Scalar.muli c0_i32_668 c2_i32_671
  let v648 : BitVec 32 := Scalar.addi v646 v647
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_672 : BitVec 32 := 1#32
  let v649 : BitVec 32 := Scalar.muli v8 c1_i32_672
  let v650 : BitVec 32 := Scalar.addi v648 v649
  v650.toNat
def k0_cond3 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_26 : BitVec 32 := 1#32
  let v41 : BitVec 1 := Scalar.cmpi .eq v2 c1_i32_26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_27 : BitVec 32 := 0#32
  let v42 : BitVec 1 := Scalar.cmpi .eq v5 c0_i32_27
  let v43 : BitVec 1 := Scalar.andi v41 v42
  let v44 : BitVec 32 := Scalar.extui v43
  let c0_i32_28 : BitVec 32 := 0#32
  let v45 : BitVec 1 := Scalar.cmpi .ne v44 c0_i32_28
  v45

def k0_dev69 (d0 : Dev nD) : Nat :=
  let c0_i32_38 : BitVec 32 := 0#32
  let c1_i32_35 : BitVec 32 := 1#32
  let c4_i32_37 : BitVec 32 := 4#32
  let v52 : BitVec 32 := Scalar.muli c1_i32_35 c4_i32_37
  let v53 : BitVec 32 := Scalar.addi c0_i32_38 v52
  let c0_i32_36 : BitVec 32 := 0#32
  let c2_i32_39 : BitVec 32 := 2#32
  let v54 : BitVec 32 := Scalar.muli c0_i32_36 c2_i32_39
  let v55 : BitVec 32 := Scalar.addi v53 v54
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_40 : BitVec 32 := 1#32
  let v56 : BitVec 32 := Scalar.muli v51 c1_i32_40
  let v57 : BitVec 32 := Scalar.addi v55 v56
  v57.toNat
def k0_dev70 (d0 : Dev nD) : Nat :=
  let c0_i32_49 : BitVec 32 := 0#32
  let c1_i32_46 : BitVec 32 := 1#32
  let c4_i32_48 : BitVec 32 := 4#32
  let v64 : BitVec 32 := Scalar.muli c1_i32_46 c4_i32_48
  let v65 : BitVec 32 := Scalar.addi c0_i32_49 v64
  let c0_i32_47 : BitVec 32 := 0#32
  let c2_i32_50 : BitVec 32 := 2#32
  let v66 : BitVec 32 := Scalar.muli c0_i32_47 c2_i32_50
  let v67 : BitVec 32 := Scalar.addi v65 v66
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_51 : BitVec 32 := 1#32
  let v68 : BitVec 32 := Scalar.muli v51 c1_i32_51
  let v69 : BitVec 32 := Scalar.addi v67 v68
  v69.toNat
def k0_dev71 (d0 : Dev nD) : Nat :=
  let c0_i32_59 : BitVec 32 := 0#32
  let c1_i32_56 : BitVec 32 := 1#32
  let c4_i32_58 : BitVec 32 := 4#32
  let v76 : BitVec 32 := Scalar.muli c1_i32_56 c4_i32_58
  let v77 : BitVec 32 := Scalar.addi c0_i32_59 v76
  let c0_i32_57 : BitVec 32 := 0#32
  let c2_i32_60 : BitVec 32 := 2#32
  let v78 : BitVec 32 := Scalar.muli c0_i32_57 c2_i32_60
  let v79 : BitVec 32 := Scalar.addi v77 v78
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_61 : BitVec 32 := 1#32
  let v80 : BitVec 32 := Scalar.muli v51 c1_i32_61
  let v81 : BitVec 32 := Scalar.addi v79 v80
  v81.toNat
def k0_dev72 (d0 : Dev nD) : Nat :=
  let c0_i32_69 : BitVec 32 := 0#32
  let c1_i32_66 : BitVec 32 := 1#32
  let c4_i32_68 : BitVec 32 := 4#32
  let v88 : BitVec 32 := Scalar.muli c1_i32_66 c4_i32_68
  let v89 : BitVec 32 := Scalar.addi c0_i32_69 v88
  let c0_i32_67 : BitVec 32 := 0#32
  let c2_i32_70 : BitVec 32 := 2#32
  let v90 : BitVec 32 := Scalar.muli c0_i32_67 c2_i32_70
  let v91 : BitVec 32 := Scalar.addi v89 v90
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_71 : BitVec 32 := 1#32
  let v92 : BitVec 32 := Scalar.muli v51 c1_i32_71
  let v93 : BitVec 32 := Scalar.addi v91 v92
  v93.toNat
def k0_dev73 (d0 : Dev nD) : Nat :=
  let c0_i32_79 : BitVec 32 := 0#32
  let c1_i32_76 : BitVec 32 := 1#32
  let c4_i32_78 : BitVec 32 := 4#32
  let v100 : BitVec 32 := Scalar.muli c1_i32_76 c4_i32_78
  let v101 : BitVec 32 := Scalar.addi c0_i32_79 v100
  let c0_i32_77 : BitVec 32 := 0#32
  let c2_i32_80 : BitVec 32 := 2#32
  let v102 : BitVec 32 := Scalar.muli c0_i32_77 c2_i32_80
  let v103 : BitVec 32 := Scalar.addi v101 v102
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_81 : BitVec 32 := 1#32
  let v104 : BitVec 32 := Scalar.muli v51 c1_i32_81
  let v105 : BitVec 32 := Scalar.addi v103 v104
  v105.toNat
def k0_dev74 (d0 : Dev nD) : Nat :=
  let c0_i32_88 : BitVec 32 := 0#32
  let c1_i32_85 : BitVec 32 := 1#32
  let c4_i32_87 : BitVec 32 := 4#32
  let v112 : BitVec 32 := Scalar.muli c1_i32_85 c4_i32_87
  let v113 : BitVec 32 := Scalar.addi c0_i32_88 v112
  let c0_i32_86 : BitVec 32 := 0#32
  let c2_i32_89 : BitVec 32 := 2#32
  let v114 : BitVec 32 := Scalar.muli c0_i32_86 c2_i32_89
  let v115 : BitVec 32 := Scalar.addi v113 v114
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_90 : BitVec 32 := 1#32
  let v116 : BitVec 32 := Scalar.muli v51 c1_i32_90
  let v117 : BitVec 32 := Scalar.addi v115 v116
  v117.toNat
def k0_dev75 (d0 : Dev nD) : Nat :=
  let c0_i32_97 : BitVec 32 := 0#32
  let c1_i32_94 : BitVec 32 := 1#32
  let c4_i32_96 : BitVec 32 := 4#32
  let v124 : BitVec 32 := Scalar.muli c1_i32_94 c4_i32_96
  let v125 : BitVec 32 := Scalar.addi c0_i32_97 v124
  let c0_i32_95 : BitVec 32 := 0#32
  let c2_i32_98 : BitVec 32 := 2#32
  let v126 : BitVec 32 := Scalar.muli c0_i32_95 c2_i32_98
  let v127 : BitVec 32 := Scalar.addi v125 v126
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_99 : BitVec 32 := 1#32
  let v128 : BitVec 32 := Scalar.muli v51 c1_i32_99
  let v129 : BitVec 32 := Scalar.addi v127 v128
  v129.toNat
def k0_dev76 (d0 : Dev nD) : Nat :=
  let c0_i32_106 : BitVec 32 := 0#32
  let c1_i32_103 : BitVec 32 := 1#32
  let c4_i32_105 : BitVec 32 := 4#32
  let v136 : BitVec 32 := Scalar.muli c1_i32_103 c4_i32_105
  let v137 : BitVec 32 := Scalar.addi c0_i32_106 v136
  let c0_i32_104 : BitVec 32 := 0#32
  let c2_i32_107 : BitVec 32 := 2#32
  let v138 : BitVec 32 := Scalar.muli c0_i32_104 c2_i32_107
  let v139 : BitVec 32 := Scalar.addi v137 v138
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_108 : BitVec 32 := 1#32
  let v140 : BitVec 32 := Scalar.muli v51 c1_i32_108
  let v141 : BitVec 32 := Scalar.addi v139 v140
  v141.toNat
def k0_dev77 (d0 : Dev nD) : Nat :=
  let c0_i32_115 : BitVec 32 := 0#32
  let c1_i32_112 : BitVec 32 := 1#32
  let c4_i32_114 : BitVec 32 := 4#32
  let v148 : BitVec 32 := Scalar.muli c1_i32_112 c4_i32_114
  let v149 : BitVec 32 := Scalar.addi c0_i32_115 v148
  let c0_i32_113 : BitVec 32 := 0#32
  let c2_i32_116 : BitVec 32 := 2#32
  let v150 : BitVec 32 := Scalar.muli c0_i32_113 c2_i32_116
  let v151 : BitVec 32 := Scalar.addi v149 v150
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_117 : BitVec 32 := 1#32
  let v152 : BitVec 32 := Scalar.muli v51 c1_i32_117
  let v153 : BitVec 32 := Scalar.addi v151 v152
  v153.toNat
def k0_dev78 (d0 : Dev nD) : Nat :=
  let c0_i32_124 : BitVec 32 := 0#32
  let c1_i32_121 : BitVec 32 := 1#32
  let c4_i32_123 : BitVec 32 := 4#32
  let v160 : BitVec 32 := Scalar.muli c1_i32_121 c4_i32_123
  let v161 : BitVec 32 := Scalar.addi c0_i32_124 v160
  let c0_i32_122 : BitVec 32 := 0#32
  let c2_i32_125 : BitVec 32 := 2#32
  let v162 : BitVec 32 := Scalar.muli c0_i32_122 c2_i32_125
  let v163 : BitVec 32 := Scalar.addi v161 v162
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_126 : BitVec 32 := 1#32
  let v164 : BitVec 32 := Scalar.muli v51 c1_i32_126
  let v165 : BitVec 32 := Scalar.addi v163 v164
  v165.toNat
def k0_dev79 (d0 : Dev nD) : Nat :=
  let c0_i32_159 : BitVec 32 := 0#32
  let c0_i32_156 : BitVec 32 := 0#32
  let c4_i32_158 : BitVec 32 := 4#32
  let v191 : BitVec 32 := Scalar.muli c0_i32_156 c4_i32_158
  let v192 : BitVec 32 := Scalar.addi c0_i32_159 v191
  let c0_i32_157 : BitVec 32 := 0#32
  let c2_i32_160 : BitVec 32 := 2#32
  let v193 : BitVec 32 := Scalar.muli c0_i32_157 c2_i32_160
  let v194 : BitVec 32 := Scalar.addi v192 v193
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_161 : BitVec 32 := 1#32
  let v195 : BitVec 32 := Scalar.muli v8 c1_i32_161
  let v196 : BitVec 32 := Scalar.addi v194 v195
  v196.toNat
def k0_dev80 (d0 : Dev nD) : Nat :=
  let c0_i32_171 : BitVec 32 := 0#32
  let c1_i32_168 : BitVec 32 := 1#32
  let c4_i32_170 : BitVec 32 := 4#32
  let v203 : BitVec 32 := Scalar.muli c1_i32_168 c4_i32_170
  let v204 : BitVec 32 := Scalar.addi c0_i32_171 v203
  let c1_i32_169 : BitVec 32 := 1#32
  let c2_i32_172 : BitVec 32 := 2#32
  let v205 : BitVec 32 := Scalar.muli c1_i32_169 c2_i32_172
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_173 : BitVec 32 := 1#32
  let v207 : BitVec 32 := Scalar.muli v8 c1_i32_173
  let v208 : BitVec 32 := Scalar.addi v206 v207
  v208.toNat
def k0_dev81 (d0 : Dev nD) : Nat :=
  let c0_i32_208 : BitVec 32 := 0#32
  let c0_i32_205 : BitVec 32 := 0#32
  let c4_i32_207 : BitVec 32 := 4#32
  let v234 : BitVec 32 := Scalar.muli c0_i32_205 c4_i32_207
  let v235 : BitVec 32 := Scalar.addi c0_i32_208 v234
  let c0_i32_206 : BitVec 32 := 0#32
  let c2_i32_209 : BitVec 32 := 2#32
  let v236 : BitVec 32 := Scalar.muli c0_i32_206 c2_i32_209
  let v237 : BitVec 32 := Scalar.addi v235 v236
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_210 : BitVec 32 := 1#32
  let v238 : BitVec 32 := Scalar.muli v8 c1_i32_210
  let v239 : BitVec 32 := Scalar.addi v237 v238
  v239.toNat
def k0_dev82 (d0 : Dev nD) : Nat :=
  let c0_i32_220 : BitVec 32 := 0#32
  let c1_i32_217 : BitVec 32 := 1#32
  let c4_i32_219 : BitVec 32 := 4#32
  let v246 : BitVec 32 := Scalar.muli c1_i32_217 c4_i32_219
  let v247 : BitVec 32 := Scalar.addi c0_i32_220 v246
  let c1_i32_218 : BitVec 32 := 1#32
  let c2_i32_221 : BitVec 32 := 2#32
  let v248 : BitVec 32 := Scalar.muli c1_i32_218 c2_i32_221
  let v249 : BitVec 32 := Scalar.addi v247 v248
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_222 : BitVec 32 := 1#32
  let v250 : BitVec 32 := Scalar.muli v8 c1_i32_222
  let v251 : BitVec 32 := Scalar.addi v249 v250
  v251.toNat
def k0_dev83 (d0 : Dev nD) : Nat :=
  let c0_i32_257 : BitVec 32 := 0#32
  let c0_i32_254 : BitVec 32 := 0#32
  let c4_i32_256 : BitVec 32 := 4#32
  let v277 : BitVec 32 := Scalar.muli c0_i32_254 c4_i32_256
  let v278 : BitVec 32 := Scalar.addi c0_i32_257 v277
  let c0_i32_255 : BitVec 32 := 0#32
  let c2_i32_258 : BitVec 32 := 2#32
  let v279 : BitVec 32 := Scalar.muli c0_i32_255 c2_i32_258
  let v280 : BitVec 32 := Scalar.addi v278 v279
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_259 : BitVec 32 := 1#32
  let v281 : BitVec 32 := Scalar.muli v8 c1_i32_259
  let v282 : BitVec 32 := Scalar.addi v280 v281
  v282.toNat
def k0_dev84 (d0 : Dev nD) : Nat :=
  let c0_i32_269 : BitVec 32 := 0#32
  let c1_i32_266 : BitVec 32 := 1#32
  let c4_i32_268 : BitVec 32 := 4#32
  let v289 : BitVec 32 := Scalar.muli c1_i32_266 c4_i32_268
  let v290 : BitVec 32 := Scalar.addi c0_i32_269 v289
  let c1_i32_267 : BitVec 32 := 1#32
  let c2_i32_270 : BitVec 32 := 2#32
  let v291 : BitVec 32 := Scalar.muli c1_i32_267 c2_i32_270
  let v292 : BitVec 32 := Scalar.addi v290 v291
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_271 : BitVec 32 := 1#32
  let v293 : BitVec 32 := Scalar.muli v8 c1_i32_271
  let v294 : BitVec 32 := Scalar.addi v292 v293
  v294.toNat
def k0_dev85 (d0 : Dev nD) : Nat :=
  let c0_i32_306 : BitVec 32 := 0#32
  let c0_i32_303 : BitVec 32 := 0#32
  let c4_i32_305 : BitVec 32 := 4#32
  let v320 : BitVec 32 := Scalar.muli c0_i32_303 c4_i32_305
  let v321 : BitVec 32 := Scalar.addi c0_i32_306 v320
  let c0_i32_304 : BitVec 32 := 0#32
  let c2_i32_307 : BitVec 32 := 2#32
  let v322 : BitVec 32 := Scalar.muli c0_i32_304 c2_i32_307
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_308 : BitVec 32 := 1#32
  let v324 : BitVec 32 := Scalar.muli v8 c1_i32_308
  let v325 : BitVec 32 := Scalar.addi v323 v324
  v325.toNat
def k0_dev86 (d0 : Dev nD) : Nat :=
  let c0_i32_318 : BitVec 32 := 0#32
  let c1_i32_315 : BitVec 32 := 1#32
  let c4_i32_317 : BitVec 32 := 4#32
  let v332 : BitVec 32 := Scalar.muli c1_i32_315 c4_i32_317
  let v333 : BitVec 32 := Scalar.addi c0_i32_318 v332
  let c1_i32_316 : BitVec 32 := 1#32
  let c2_i32_319 : BitVec 32 := 2#32
  let v334 : BitVec 32 := Scalar.muli c1_i32_316 c2_i32_319
  let v335 : BitVec 32 := Scalar.addi v333 v334
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_320 : BitVec 32 := 1#32
  let v336 : BitVec 32 := Scalar.muli v8 c1_i32_320
  let v337 : BitVec 32 := Scalar.addi v335 v336
  v337.toNat
def k0_dev87 (d0 : Dev nD) : Nat :=
  let c0_i32_355 : BitVec 32 := 0#32
  let c0_i32_352 : BitVec 32 := 0#32
  let c4_i32_354 : BitVec 32 := 4#32
  let v363 : BitVec 32 := Scalar.muli c0_i32_352 c4_i32_354
  let v364 : BitVec 32 := Scalar.addi c0_i32_355 v363
  let c0_i32_353 : BitVec 32 := 0#32
  let c2_i32_356 : BitVec 32 := 2#32
  let v365 : BitVec 32 := Scalar.muli c0_i32_353 c2_i32_356
  let v366 : BitVec 32 := Scalar.addi v364 v365
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_357 : BitVec 32 := 1#32
  let v367 : BitVec 32 := Scalar.muli v8 c1_i32_357
  let v368 : BitVec 32 := Scalar.addi v366 v367
  v368.toNat
def k0_dev88 (d0 : Dev nD) : Nat :=
  let c0_i32_367 : BitVec 32 := 0#32
  let c1_i32_364 : BitVec 32 := 1#32
  let c4_i32_366 : BitVec 32 := 4#32
  let v375 : BitVec 32 := Scalar.muli c1_i32_364 c4_i32_366
  let v376 : BitVec 32 := Scalar.addi c0_i32_367 v375
  let c1_i32_365 : BitVec 32 := 1#32
  let c2_i32_368 : BitVec 32 := 2#32
  let v377 : BitVec 32 := Scalar.muli c1_i32_365 c2_i32_368
  let v378 : BitVec 32 := Scalar.addi v376 v377
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_369 : BitVec 32 := 1#32
  let v379 : BitVec 32 := Scalar.muli v8 c1_i32_369
  let v380 : BitVec 32 := Scalar.addi v378 v379
  v380.toNat
def k0_dev89 (d0 : Dev nD) : Nat :=
  let c0_i32_404 : BitVec 32 := 0#32
  let c0_i32_401 : BitVec 32 := 0#32
  let c4_i32_403 : BitVec 32 := 4#32
  let v406 : BitVec 32 := Scalar.muli c0_i32_401 c4_i32_403
  let v407 : BitVec 32 := Scalar.addi c0_i32_404 v406
  let c0_i32_402 : BitVec 32 := 0#32
  let c2_i32_405 : BitVec 32 := 2#32
  let v408 : BitVec 32 := Scalar.muli c0_i32_402 c2_i32_405
  let v409 : BitVec 32 := Scalar.addi v407 v408
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_406 : BitVec 32 := 1#32
  let v410 : BitVec 32 := Scalar.muli v8 c1_i32_406
  let v411 : BitVec 32 := Scalar.addi v409 v410
  v411.toNat
def k0_dev90 (d0 : Dev nD) : Nat :=
  let c0_i32_416 : BitVec 32 := 0#32
  let c1_i32_413 : BitVec 32 := 1#32
  let c4_i32_415 : BitVec 32 := 4#32
  let v418 : BitVec 32 := Scalar.muli c1_i32_413 c4_i32_415
  let v419 : BitVec 32 := Scalar.addi c0_i32_416 v418
  let c1_i32_414 : BitVec 32 := 1#32
  let c2_i32_417 : BitVec 32 := 2#32
  let v420 : BitVec 32 := Scalar.muli c1_i32_414 c2_i32_417
  let v421 : BitVec 32 := Scalar.addi v419 v420
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_418 : BitVec 32 := 1#32
  let v422 : BitVec 32 := Scalar.muli v8 c1_i32_418
  let v423 : BitVec 32 := Scalar.addi v421 v422
  v423.toNat
def k0_dev91 (d0 : Dev nD) : Nat :=
  let c0_i32_453 : BitVec 32 := 0#32
  let c0_i32_450 : BitVec 32 := 0#32
  let c4_i32_452 : BitVec 32 := 4#32
  let v449 : BitVec 32 := Scalar.muli c0_i32_450 c4_i32_452
  let v450 : BitVec 32 := Scalar.addi c0_i32_453 v449
  let c0_i32_451 : BitVec 32 := 0#32
  let c2_i32_454 : BitVec 32 := 2#32
  let v451 : BitVec 32 := Scalar.muli c0_i32_451 c2_i32_454
  let v452 : BitVec 32 := Scalar.addi v450 v451
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_455 : BitVec 32 := 1#32
  let v453 : BitVec 32 := Scalar.muli v8 c1_i32_455
  let v454 : BitVec 32 := Scalar.addi v452 v453
  v454.toNat
def k0_dev92 (d0 : Dev nD) : Nat :=
  let c0_i32_465 : BitVec 32 := 0#32
  let c1_i32_462 : BitVec 32 := 1#32
  let c4_i32_464 : BitVec 32 := 4#32
  let v461 : BitVec 32 := Scalar.muli c1_i32_462 c4_i32_464
  let v462 : BitVec 32 := Scalar.addi c0_i32_465 v461
  let c1_i32_463 : BitVec 32 := 1#32
  let c2_i32_466 : BitVec 32 := 2#32
  let v463 : BitVec 32 := Scalar.muli c1_i32_463 c2_i32_466
  let v464 : BitVec 32 := Scalar.addi v462 v463
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_467 : BitVec 32 := 1#32
  let v465 : BitVec 32 := Scalar.muli v8 c1_i32_467
  let v466 : BitVec 32 := Scalar.addi v464 v465
  v466.toNat
def k0_dev93 (d0 : Dev nD) : Nat :=
  let c0_i32_502 : BitVec 32 := 0#32
  let c0_i32_499 : BitVec 32 := 0#32
  let c4_i32_501 : BitVec 32 := 4#32
  let v492 : BitVec 32 := Scalar.muli c0_i32_499 c4_i32_501
  let v493 : BitVec 32 := Scalar.addi c0_i32_502 v492
  let c0_i32_500 : BitVec 32 := 0#32
  let c2_i32_503 : BitVec 32 := 2#32
  let v494 : BitVec 32 := Scalar.muli c0_i32_500 c2_i32_503
  let v495 : BitVec 32 := Scalar.addi v493 v494
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_504 : BitVec 32 := 1#32
  let v496 : BitVec 32 := Scalar.muli v8 c1_i32_504
  let v497 : BitVec 32 := Scalar.addi v495 v496
  v497.toNat
def k0_dev94 (d0 : Dev nD) : Nat :=
  let c0_i32_514 : BitVec 32 := 0#32
  let c1_i32_511 : BitVec 32 := 1#32
  let c4_i32_513 : BitVec 32 := 4#32
  let v504 : BitVec 32 := Scalar.muli c1_i32_511 c4_i32_513
  let v505 : BitVec 32 := Scalar.addi c0_i32_514 v504
  let c1_i32_512 : BitVec 32 := 1#32
  let c2_i32_515 : BitVec 32 := 2#32
  let v506 : BitVec 32 := Scalar.muli c1_i32_512 c2_i32_515
  let v507 : BitVec 32 := Scalar.addi v505 v506
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_516 : BitVec 32 := 1#32
  let v508 : BitVec 32 := Scalar.muli v8 c1_i32_516
  let v509 : BitVec 32 := Scalar.addi v507 v508
  v509.toNat
def k0_dev95 (d0 : Dev nD) : Nat :=
  let c0_i32_551 : BitVec 32 := 0#32
  let c0_i32_548 : BitVec 32 := 0#32
  let c4_i32_550 : BitVec 32 := 4#32
  let v535 : BitVec 32 := Scalar.muli c0_i32_548 c4_i32_550
  let v536 : BitVec 32 := Scalar.addi c0_i32_551 v535
  let c0_i32_549 : BitVec 32 := 0#32
  let c2_i32_552 : BitVec 32 := 2#32
  let v537 : BitVec 32 := Scalar.muli c0_i32_549 c2_i32_552
  let v538 : BitVec 32 := Scalar.addi v536 v537
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_553 : BitVec 32 := 1#32
  let v539 : BitVec 32 := Scalar.muli v8 c1_i32_553
  let v540 : BitVec 32 := Scalar.addi v538 v539
  v540.toNat
def k0_dev96 (d0 : Dev nD) : Nat :=
  let c0_i32_563 : BitVec 32 := 0#32
  let c1_i32_560 : BitVec 32 := 1#32
  let c4_i32_562 : BitVec 32 := 4#32
  let v547 : BitVec 32 := Scalar.muli c1_i32_560 c4_i32_562
  let v548 : BitVec 32 := Scalar.addi c0_i32_563 v547
  let c1_i32_561 : BitVec 32 := 1#32
  let c2_i32_564 : BitVec 32 := 2#32
  let v549 : BitVec 32 := Scalar.muli c1_i32_561 c2_i32_564
  let v550 : BitVec 32 := Scalar.addi v548 v549
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_565 : BitVec 32 := 1#32
  let v551 : BitVec 32 := Scalar.muli v8 c1_i32_565
  let v552 : BitVec 32 := Scalar.addi v550 v551
  v552.toNat
def k0_dev97 (d0 : Dev nD) : Nat :=
  let c0_i32_600 : BitVec 32 := 0#32
  let c0_i32_597 : BitVec 32 := 0#32
  let c4_i32_599 : BitVec 32 := 4#32
  let v578 : BitVec 32 := Scalar.muli c0_i32_597 c4_i32_599
  let v579 : BitVec 32 := Scalar.addi c0_i32_600 v578
  let c0_i32_598 : BitVec 32 := 0#32
  let c2_i32_601 : BitVec 32 := 2#32
  let v580 : BitVec 32 := Scalar.muli c0_i32_598 c2_i32_601
  let v581 : BitVec 32 := Scalar.addi v579 v580
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_602 : BitVec 32 := 1#32
  let v582 : BitVec 32 := Scalar.muli v8 c1_i32_602
  let v583 : BitVec 32 := Scalar.addi v581 v582
  v583.toNat
def k0_dev98 (d0 : Dev nD) : Nat :=
  let c0_i32_612 : BitVec 32 := 0#32
  let c1_i32_609 : BitVec 32 := 1#32
  let c4_i32_611 : BitVec 32 := 4#32
  let v590 : BitVec 32 := Scalar.muli c1_i32_609 c4_i32_611
  let v591 : BitVec 32 := Scalar.addi c0_i32_612 v590
  let c1_i32_610 : BitVec 32 := 1#32
  let c2_i32_613 : BitVec 32 := 2#32
  let v592 : BitVec 32 := Scalar.muli c1_i32_610 c2_i32_613
  let v593 : BitVec 32 := Scalar.addi v591 v592
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_614 : BitVec 32 := 1#32
  let v594 : BitVec 32 := Scalar.muli v8 c1_i32_614
  let v595 : BitVec 32 := Scalar.addi v593 v594
  v595.toNat
def k0_cond4 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_29 : BitVec 32 := 1#32
  let v46 : BitVec 1 := Scalar.cmpi .eq v2 c1_i32_29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_30 : BitVec 32 := 1#32
  let v47 : BitVec 1 := Scalar.cmpi .eq v5 c1_i32_30
  let v48 : BitVec 1 := Scalar.andi v46 v47
  let v49 : BitVec 32 := Scalar.extui v48
  let c0_i32_31 : BitVec 32 := 0#32
  let v50 : BitVec 1 := Scalar.cmpi .ne v49 c0_i32_31
  v50

def k0_dev99 (d0 : Dev nD) : Nat :=
  let c0_i32_38 : BitVec 32 := 0#32
  let c1_i32_35 : BitVec 32 := 1#32
  let c4_i32_37 : BitVec 32 := 4#32
  let v52 : BitVec 32 := Scalar.muli c1_i32_35 c4_i32_37
  let v53 : BitVec 32 := Scalar.addi c0_i32_38 v52
  let c1_i32_36 : BitVec 32 := 1#32
  let c2_i32_39 : BitVec 32 := 2#32
  let v54 : BitVec 32 := Scalar.muli c1_i32_36 c2_i32_39
  let v55 : BitVec 32 := Scalar.addi v53 v54
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_40 : BitVec 32 := 1#32
  let v56 : BitVec 32 := Scalar.muli v51 c1_i32_40
  let v57 : BitVec 32 := Scalar.addi v55 v56
  v57.toNat
def k0_dev100 (d0 : Dev nD) : Nat :=
  let c0_i32_50 : BitVec 32 := 0#32
  let c1_i32_47 : BitVec 32 := 1#32
  let c4_i32_49 : BitVec 32 := 4#32
  let v64 : BitVec 32 := Scalar.muli c1_i32_47 c4_i32_49
  let v65 : BitVec 32 := Scalar.addi c0_i32_50 v64
  let c1_i32_48 : BitVec 32 := 1#32
  let c2_i32_51 : BitVec 32 := 2#32
  let v66 : BitVec 32 := Scalar.muli c1_i32_48 c2_i32_51
  let v67 : BitVec 32 := Scalar.addi v65 v66
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_52 : BitVec 32 := 1#32
  let v68 : BitVec 32 := Scalar.muli v51 c1_i32_52
  let v69 : BitVec 32 := Scalar.addi v67 v68
  v69.toNat
def k0_dev101 (d0 : Dev nD) : Nat :=
  let c0_i32_61 : BitVec 32 := 0#32
  let c1_i32_58 : BitVec 32 := 1#32
  let c4_i32_60 : BitVec 32 := 4#32
  let v76 : BitVec 32 := Scalar.muli c1_i32_58 c4_i32_60
  let v77 : BitVec 32 := Scalar.addi c0_i32_61 v76
  let c1_i32_59 : BitVec 32 := 1#32
  let c2_i32_62 : BitVec 32 := 2#32
  let v78 : BitVec 32 := Scalar.muli c1_i32_59 c2_i32_62
  let v79 : BitVec 32 := Scalar.addi v77 v78
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_63 : BitVec 32 := 1#32
  let v80 : BitVec 32 := Scalar.muli v51 c1_i32_63
  let v81 : BitVec 32 := Scalar.addi v79 v80
  v81.toNat
def k0_dev102 (d0 : Dev nD) : Nat :=
  let c0_i32_72 : BitVec 32 := 0#32
  let c1_i32_69 : BitVec 32 := 1#32
  let c4_i32_71 : BitVec 32 := 4#32
  let v88 : BitVec 32 := Scalar.muli c1_i32_69 c4_i32_71
  let v89 : BitVec 32 := Scalar.addi c0_i32_72 v88
  let c1_i32_70 : BitVec 32 := 1#32
  let c2_i32_73 : BitVec 32 := 2#32
  let v90 : BitVec 32 := Scalar.muli c1_i32_70 c2_i32_73
  let v91 : BitVec 32 := Scalar.addi v89 v90
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_74 : BitVec 32 := 1#32
  let v92 : BitVec 32 := Scalar.muli v51 c1_i32_74
  let v93 : BitVec 32 := Scalar.addi v91 v92
  v93.toNat
def k0_dev103 (d0 : Dev nD) : Nat :=
  let c0_i32_83 : BitVec 32 := 0#32
  let c1_i32_80 : BitVec 32 := 1#32
  let c4_i32_82 : BitVec 32 := 4#32
  let v100 : BitVec 32 := Scalar.muli c1_i32_80 c4_i32_82
  let v101 : BitVec 32 := Scalar.addi c0_i32_83 v100
  let c1_i32_81 : BitVec 32 := 1#32
  let c2_i32_84 : BitVec 32 := 2#32
  let v102 : BitVec 32 := Scalar.muli c1_i32_81 c2_i32_84
  let v103 : BitVec 32 := Scalar.addi v101 v102
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_85 : BitVec 32 := 1#32
  let v104 : BitVec 32 := Scalar.muli v51 c1_i32_85
  let v105 : BitVec 32 := Scalar.addi v103 v104
  v105.toNat
def k0_dev104 (d0 : Dev nD) : Nat :=
  let c0_i32_93 : BitVec 32 := 0#32
  let c1_i32_90 : BitVec 32 := 1#32
  let c4_i32_92 : BitVec 32 := 4#32
  let v112 : BitVec 32 := Scalar.muli c1_i32_90 c4_i32_92
  let v113 : BitVec 32 := Scalar.addi c0_i32_93 v112
  let c1_i32_91 : BitVec 32 := 1#32
  let c2_i32_94 : BitVec 32 := 2#32
  let v114 : BitVec 32 := Scalar.muli c1_i32_91 c2_i32_94
  let v115 : BitVec 32 := Scalar.addi v113 v114
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_95 : BitVec 32 := 1#32
  let v116 : BitVec 32 := Scalar.muli v51 c1_i32_95
  let v117 : BitVec 32 := Scalar.addi v115 v116
  v117.toNat
def k0_dev105 (d0 : Dev nD) : Nat :=
  let c0_i32_103 : BitVec 32 := 0#32
  let c1_i32_100 : BitVec 32 := 1#32
  let c4_i32_102 : BitVec 32 := 4#32
  let v124 : BitVec 32 := Scalar.muli c1_i32_100 c4_i32_102
  let v125 : BitVec 32 := Scalar.addi c0_i32_103 v124
  let c1_i32_101 : BitVec 32 := 1#32
  let c2_i32_104 : BitVec 32 := 2#32
  let v126 : BitVec 32 := Scalar.muli c1_i32_101 c2_i32_104
  let v127 : BitVec 32 := Scalar.addi v125 v126
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_105 : BitVec 32 := 1#32
  let v128 : BitVec 32 := Scalar.muli v51 c1_i32_105
  let v129 : BitVec 32 := Scalar.addi v127 v128
  v129.toNat
def k0_dev106 (d0 : Dev nD) : Nat :=
  let c0_i32_113 : BitVec 32 := 0#32
  let c1_i32_110 : BitVec 32 := 1#32
  let c4_i32_112 : BitVec 32 := 4#32
  let v136 : BitVec 32 := Scalar.muli c1_i32_110 c4_i32_112
  let v137 : BitVec 32 := Scalar.addi c0_i32_113 v136
  let c1_i32_111 : BitVec 32 := 1#32
  let c2_i32_114 : BitVec 32 := 2#32
  let v138 : BitVec 32 := Scalar.muli c1_i32_111 c2_i32_114
  let v139 : BitVec 32 := Scalar.addi v137 v138
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_115 : BitVec 32 := 1#32
  let v140 : BitVec 32 := Scalar.muli v51 c1_i32_115
  let v141 : BitVec 32 := Scalar.addi v139 v140
  v141.toNat
def k0_dev107 (d0 : Dev nD) : Nat :=
  let c0_i32_123 : BitVec 32 := 0#32
  let c1_i32_120 : BitVec 32 := 1#32
  let c4_i32_122 : BitVec 32 := 4#32
  let v148 : BitVec 32 := Scalar.muli c1_i32_120 c4_i32_122
  let v149 : BitVec 32 := Scalar.addi c0_i32_123 v148
  let c1_i32_121 : BitVec 32 := 1#32
  let c2_i32_124 : BitVec 32 := 2#32
  let v150 : BitVec 32 := Scalar.muli c1_i32_121 c2_i32_124
  let v151 : BitVec 32 := Scalar.addi v149 v150
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_125 : BitVec 32 := 1#32
  let v152 : BitVec 32 := Scalar.muli v51 c1_i32_125
  let v153 : BitVec 32 := Scalar.addi v151 v152
  v153.toNat
def k0_dev108 (d0 : Dev nD) : Nat :=
  let c0_i32_133 : BitVec 32 := 0#32
  let c1_i32_130 : BitVec 32 := 1#32
  let c4_i32_132 : BitVec 32 := 4#32
  let v160 : BitVec 32 := Scalar.muli c1_i32_130 c4_i32_132
  let v161 : BitVec 32 := Scalar.addi c0_i32_133 v160
  let c1_i32_131 : BitVec 32 := 1#32
  let c2_i32_134 : BitVec 32 := 2#32
  let v162 : BitVec 32 := Scalar.muli c1_i32_131 c2_i32_134
  let v163 : BitVec 32 := Scalar.addi v161 v162
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_135 : BitVec 32 := 1#32
  let v164 : BitVec 32 := Scalar.muli v51 c1_i32_135
  let v165 : BitVec 32 := Scalar.addi v163 v164
  v165.toNat
def k0_dev109 (d0 : Dev nD) : Nat :=
  let c0_i32_143 : BitVec 32 := 0#32
  let c1_i32_140 : BitVec 32 := 1#32
  let c4_i32_142 : BitVec 32 := 4#32
  let v172 : BitVec 32 := Scalar.muli c1_i32_140 c4_i32_142
  let v173 : BitVec 32 := Scalar.addi c0_i32_143 v172
  let c1_i32_141 : BitVec 32 := 1#32
  let c2_i32_144 : BitVec 32 := 2#32
  let v174 : BitVec 32 := Scalar.muli c1_i32_141 c2_i32_144
  let v175 : BitVec 32 := Scalar.addi v173 v174
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_32 v8
  let c1_i32_145 : BitVec 32 := 1#32
  let v176 : BitVec 32 := Scalar.muli v51 c1_i32_145
  let v177 : BitVec 32 := Scalar.addi v175 v176
  v177.toNat
def k0_dev110 (d0 : Dev nD) : Nat :=
  let c0_i32_180 : BitVec 32 := 0#32
  let c0_i32_177 : BitVec 32 := 0#32
  let c4_i32_179 : BitVec 32 := 4#32
  let v203 : BitVec 32 := Scalar.muli c0_i32_177 c4_i32_179
  let v204 : BitVec 32 := Scalar.addi c0_i32_180 v203
  let c1_i32_178 : BitVec 32 := 1#32
  let c2_i32_181 : BitVec 32 := 2#32
  let v205 : BitVec 32 := Scalar.muli c1_i32_178 c2_i32_181
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_182 : BitVec 32 := 1#32
  let v207 : BitVec 32 := Scalar.muli v8 c1_i32_182
  let v208 : BitVec 32 := Scalar.addi v206 v207
  v208.toNat
def k0_dev111 (d0 : Dev nD) : Nat :=
  let c0_i32_203 : BitVec 32 := 0#32
  let c1_i32_200 : BitVec 32 := 1#32
  let c4_i32_202 : BitVec 32 := 4#32
  let v225 : BitVec 32 := Scalar.muli c1_i32_200 c4_i32_202
  let v226 : BitVec 32 := Scalar.addi c0_i32_203 v225
  let c0_i32_201 : BitVec 32 := 0#32
  let c2_i32_204 : BitVec 32 := 2#32
  let v227 : BitVec 32 := Scalar.muli c0_i32_201 c2_i32_204
  let v228 : BitVec 32 := Scalar.addi v226 v227
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_205 : BitVec 32 := 1#32
  let v229 : BitVec 32 := Scalar.muli v8 c1_i32_205
  let v230 : BitVec 32 := Scalar.addi v228 v229
  v230.toNat
def k0_dev112 (d0 : Dev nD) : Nat :=
  let c0_i32_241 : BitVec 32 := 0#32
  let c0_i32_238 : BitVec 32 := 0#32
  let c4_i32_240 : BitVec 32 := 4#32
  let v256 : BitVec 32 := Scalar.muli c0_i32_238 c4_i32_240
  let v257 : BitVec 32 := Scalar.addi c0_i32_241 v256
  let c1_i32_239 : BitVec 32 := 1#32
  let c2_i32_242 : BitVec 32 := 2#32
  let v258 : BitVec 32 := Scalar.muli c1_i32_239 c2_i32_242
  let v259 : BitVec 32 := Scalar.addi v257 v258
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_243 : BitVec 32 := 1#32
  let v260 : BitVec 32 := Scalar.muli v8 c1_i32_243
  let v261 : BitVec 32 := Scalar.addi v259 v260
  v261.toNat
def k0_dev113 (d0 : Dev nD) : Nat :=
  let c0_i32_264 : BitVec 32 := 0#32
  let c1_i32_261 : BitVec 32 := 1#32
  let c4_i32_263 : BitVec 32 := 4#32
  let v278 : BitVec 32 := Scalar.muli c1_i32_261 c4_i32_263
  let v279 : BitVec 32 := Scalar.addi c0_i32_264 v278
  let c0_i32_262 : BitVec 32 := 0#32
  let c2_i32_265 : BitVec 32 := 2#32
  let v280 : BitVec 32 := Scalar.muli c0_i32_262 c2_i32_265
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_266 : BitVec 32 := 1#32
  let v282 : BitVec 32 := Scalar.muli v8 c1_i32_266
  let v283 : BitVec 32 := Scalar.addi v281 v282
  v283.toNat
def k0_dev114 (d0 : Dev nD) : Nat :=
  let c0_i32_302 : BitVec 32 := 0#32
  let c0_i32_299 : BitVec 32 := 0#32
  let c4_i32_301 : BitVec 32 := 4#32
  let v309 : BitVec 32 := Scalar.muli c0_i32_299 c4_i32_301
  let v310 : BitVec 32 := Scalar.addi c0_i32_302 v309
  let c1_i32_300 : BitVec 32 := 1#32
  let c2_i32_303 : BitVec 32 := 2#32
  let v311 : BitVec 32 := Scalar.muli c1_i32_300 c2_i32_303
  let v312 : BitVec 32 := Scalar.addi v310 v311
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_304 : BitVec 32 := 1#32
  let v313 : BitVec 32 := Scalar.muli v8 c1_i32_304
  let v314 : BitVec 32 := Scalar.addi v312 v313
  v314.toNat
def k0_dev115 (d0 : Dev nD) : Nat :=
  let c0_i32_325 : BitVec 32 := 0#32
  let c1_i32_322 : BitVec 32 := 1#32
  let c4_i32_324 : BitVec 32 := 4#32
  let v331 : BitVec 32 := Scalar.muli c1_i32_322 c4_i32_324
  let v332 : BitVec 32 := Scalar.addi c0_i32_325 v331
  let c0_i32_323 : BitVec 32 := 0#32
  let c2_i32_326 : BitVec 32 := 2#32
  let v333 : BitVec 32 := Scalar.muli c0_i32_323 c2_i32_326
  let v334 : BitVec 32 := Scalar.addi v332 v333
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_327 : BitVec 32 := 1#32
  let v335 : BitVec 32 := Scalar.muli v8 c1_i32_327
  let v336 : BitVec 32 := Scalar.addi v334 v335
  v336.toNat
def k0_dev116 (d0 : Dev nD) : Nat :=
  let c0_i32_363 : BitVec 32 := 0#32
  let c0_i32_360 : BitVec 32 := 0#32
  let c4_i32_362 : BitVec 32 := 4#32
  let v362 : BitVec 32 := Scalar.muli c0_i32_360 c4_i32_362
  let v363 : BitVec 32 := Scalar.addi c0_i32_363 v362
  let c1_i32_361 : BitVec 32 := 1#32
  let c2_i32_364 : BitVec 32 := 2#32
  let v364 : BitVec 32 := Scalar.muli c1_i32_361 c2_i32_364
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_365 : BitVec 32 := 1#32
  let v366 : BitVec 32 := Scalar.muli v8 c1_i32_365
  let v367 : BitVec 32 := Scalar.addi v365 v366
  v367.toNat
def k0_dev117 (d0 : Dev nD) : Nat :=
  let c0_i32_386 : BitVec 32 := 0#32
  let c1_i32_383 : BitVec 32 := 1#32
  let c4_i32_385 : BitVec 32 := 4#32
  let v384 : BitVec 32 := Scalar.muli c1_i32_383 c4_i32_385
  let v385 : BitVec 32 := Scalar.addi c0_i32_386 v384
  let c0_i32_384 : BitVec 32 := 0#32
  let c2_i32_387 : BitVec 32 := 2#32
  let v386 : BitVec 32 := Scalar.muli c0_i32_384 c2_i32_387
  let v387 : BitVec 32 := Scalar.addi v385 v386
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_388 : BitVec 32 := 1#32
  let v388 : BitVec 32 := Scalar.muli v8 c1_i32_388
  let v389 : BitVec 32 := Scalar.addi v387 v388
  v389.toNat
def k0_dev118 (d0 : Dev nD) : Nat :=
  let c0_i32_424 : BitVec 32 := 0#32
  let c0_i32_421 : BitVec 32 := 0#32
  let c4_i32_423 : BitVec 32 := 4#32
  let v415 : BitVec 32 := Scalar.muli c0_i32_421 c4_i32_423
  let v416 : BitVec 32 := Scalar.addi c0_i32_424 v415
  let c1_i32_422 : BitVec 32 := 1#32
  let c2_i32_425 : BitVec 32 := 2#32
  let v417 : BitVec 32 := Scalar.muli c1_i32_422 c2_i32_425
  let v418 : BitVec 32 := Scalar.addi v416 v417
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_426 : BitVec 32 := 1#32
  let v419 : BitVec 32 := Scalar.muli v8 c1_i32_426
  let v420 : BitVec 32 := Scalar.addi v418 v419
  v420.toNat
def k0_dev119 (d0 : Dev nD) : Nat :=
  let c0_i32_447 : BitVec 32 := 0#32
  let c1_i32_444 : BitVec 32 := 1#32
  let c4_i32_446 : BitVec 32 := 4#32
  let v437 : BitVec 32 := Scalar.muli c1_i32_444 c4_i32_446
  let v438 : BitVec 32 := Scalar.addi c0_i32_447 v437
  let c0_i32_445 : BitVec 32 := 0#32
  let c2_i32_448 : BitVec 32 := 2#32
  let v439 : BitVec 32 := Scalar.muli c0_i32_445 c2_i32_448
  let v440 : BitVec 32 := Scalar.addi v438 v439
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_449 : BitVec 32 := 1#32
  let v441 : BitVec 32 := Scalar.muli v8 c1_i32_449
  let v442 : BitVec 32 := Scalar.addi v440 v441
  v442.toNat
def k0_dev120 (d0 : Dev nD) : Nat :=
  let c0_i32_485 : BitVec 32 := 0#32
  let c0_i32_482 : BitVec 32 := 0#32
  let c4_i32_484 : BitVec 32 := 4#32
  let v468 : BitVec 32 := Scalar.muli c0_i32_482 c4_i32_484
  let v469 : BitVec 32 := Scalar.addi c0_i32_485 v468
  let c1_i32_483 : BitVec 32 := 1#32
  let c2_i32_486 : BitVec 32 := 2#32
  let v470 : BitVec 32 := Scalar.muli c1_i32_483 c2_i32_486
  let v471 : BitVec 32 := Scalar.addi v469 v470
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_487 : BitVec 32 := 1#32
  let v472 : BitVec 32 := Scalar.muli v8 c1_i32_487
  let v473 : BitVec 32 := Scalar.addi v471 v472
  v473.toNat
def k0_dev121 (d0 : Dev nD) : Nat :=
  let c0_i32_508 : BitVec 32 := 0#32
  let c1_i32_505 : BitVec 32 := 1#32
  let c4_i32_507 : BitVec 32 := 4#32
  let v490 : BitVec 32 := Scalar.muli c1_i32_505 c4_i32_507
  let v491 : BitVec 32 := Scalar.addi c0_i32_508 v490
  let c0_i32_506 : BitVec 32 := 0#32
  let c2_i32_509 : BitVec 32 := 2#32
  let v492 : BitVec 32 := Scalar.muli c0_i32_506 c2_i32_509
  let v493 : BitVec 32 := Scalar.addi v491 v492
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_510 : BitVec 32 := 1#32
  let v494 : BitVec 32 := Scalar.muli v8 c1_i32_510
  let v495 : BitVec 32 := Scalar.addi v493 v494
  v495.toNat
def k0_dev122 (d0 : Dev nD) : Nat :=
  let c0_i32_546 : BitVec 32 := 0#32
  let c0_i32_543 : BitVec 32 := 0#32
  let c4_i32_545 : BitVec 32 := 4#32
  let v521 : BitVec 32 := Scalar.muli c0_i32_543 c4_i32_545
  let v522 : BitVec 32 := Scalar.addi c0_i32_546 v521
  let c1_i32_544 : BitVec 32 := 1#32
  let c2_i32_547 : BitVec 32 := 2#32
  let v523 : BitVec 32 := Scalar.muli c1_i32_544 c2_i32_547
  let v524 : BitVec 32 := Scalar.addi v522 v523
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_548 : BitVec 32 := 1#32
  let v525 : BitVec 32 := Scalar.muli v8 c1_i32_548
  let v526 : BitVec 32 := Scalar.addi v524 v525
  v526.toNat
def k0_dev123 (d0 : Dev nD) : Nat :=
  let c0_i32_569 : BitVec 32 := 0#32
  let c1_i32_566 : BitVec 32 := 1#32
  let c4_i32_568 : BitVec 32 := 4#32
  let v543 : BitVec 32 := Scalar.muli c1_i32_566 c4_i32_568
  let v544 : BitVec 32 := Scalar.addi c0_i32_569 v543
  let c0_i32_567 : BitVec 32 := 0#32
  let c2_i32_570 : BitVec 32 := 2#32
  let v545 : BitVec 32 := Scalar.muli c0_i32_567 c2_i32_570
  let v546 : BitVec 32 := Scalar.addi v544 v545
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_571 : BitVec 32 := 1#32
  let v547 : BitVec 32 := Scalar.muli v8 c1_i32_571
  let v548 : BitVec 32 := Scalar.addi v546 v547
  v548.toNat
def k0_dev124 (d0 : Dev nD) : Nat :=
  let c0_i32_607 : BitVec 32 := 0#32
  let c0_i32_604 : BitVec 32 := 0#32
  let c4_i32_606 : BitVec 32 := 4#32
  let v574 : BitVec 32 := Scalar.muli c0_i32_604 c4_i32_606
  let v575 : BitVec 32 := Scalar.addi c0_i32_607 v574
  let c1_i32_605 : BitVec 32 := 1#32
  let c2_i32_608 : BitVec 32 := 2#32
  let v576 : BitVec 32 := Scalar.muli c1_i32_605 c2_i32_608
  let v577 : BitVec 32 := Scalar.addi v575 v576
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_609 : BitVec 32 := 1#32
  let v578 : BitVec 32 := Scalar.muli v8 c1_i32_609
  let v579 : BitVec 32 := Scalar.addi v577 v578
  v579.toNat
def k0_dev125 (d0 : Dev nD) : Nat :=
  let c0_i32_630 : BitVec 32 := 0#32
  let c1_i32_627 : BitVec 32 := 1#32
  let c4_i32_629 : BitVec 32 := 4#32
  let v596 : BitVec 32 := Scalar.muli c1_i32_627 c4_i32_629
  let v597 : BitVec 32 := Scalar.addi c0_i32_630 v596
  let c0_i32_628 : BitVec 32 := 0#32
  let c2_i32_631 : BitVec 32 := 2#32
  let v598 : BitVec 32 := Scalar.muli c0_i32_628 c2_i32_631
  let v599 : BitVec 32 := Scalar.addi v597 v598
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_632 : BitVec 32 := 1#32
  let v600 : BitVec 32 := Scalar.muli v8 c1_i32_632
  let v601 : BitVec 32 := Scalar.addi v599 v600
  v601.toNat
def k0_dev126 (d0 : Dev nD) : Nat :=
  let c0_i32_668 : BitVec 32 := 0#32
  let c0_i32_665 : BitVec 32 := 0#32
  let c4_i32_667 : BitVec 32 := 4#32
  let v627 : BitVec 32 := Scalar.muli c0_i32_665 c4_i32_667
  let v628 : BitVec 32 := Scalar.addi c0_i32_668 v627
  let c1_i32_666 : BitVec 32 := 1#32
  let c2_i32_669 : BitVec 32 := 2#32
  let v629 : BitVec 32 := Scalar.muli c1_i32_666 c2_i32_669
  let v630 : BitVec 32 := Scalar.addi v628 v629
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_670 : BitVec 32 := 1#32
  let v631 : BitVec 32 := Scalar.muli v8 c1_i32_670
  let v632 : BitVec 32 := Scalar.addi v630 v631
  v632.toNat
def k0_dev127 (d0 : Dev nD) : Nat :=
  let c0_i32_691 : BitVec 32 := 0#32
  let c1_i32_688 : BitVec 32 := 1#32
  let c4_i32_690 : BitVec 32 := 4#32
  let v649 : BitVec 32 := Scalar.muli c1_i32_688 c4_i32_690
  let v650 : BitVec 32 := Scalar.addi c0_i32_691 v649
  let c0_i32_689 : BitVec 32 := 0#32
  let c2_i32_692 : BitVec 32 := 2#32
  let v651 : BitVec 32 := Scalar.muli c0_i32_689 c2_i32_692
  let v652 : BitVec 32 := Scalar.addi v650 v651
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_693 : BitVec 32 := 1#32
  let v653 : BitVec 32 := Scalar.muli v8 c1_i32_693
  let v654 : BitVec 32 := Scalar.addi v652 v653
  v654.toNat
def k0_dev128 (d0 : Dev nD) : Nat :=
  let c0_i32_729 : BitVec 32 := 0#32
  let c0_i32_726 : BitVec 32 := 0#32
  let c4_i32_728 : BitVec 32 := 4#32
  let v680 : BitVec 32 := Scalar.muli c0_i32_726 c4_i32_728
  let v681 : BitVec 32 := Scalar.addi c0_i32_729 v680
  let c1_i32_727 : BitVec 32 := 1#32
  let c2_i32_730 : BitVec 32 := 2#32
  let v682 : BitVec 32 := Scalar.muli c1_i32_727 c2_i32_730
  let v683 : BitVec 32 := Scalar.addi v681 v682
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_731 : BitVec 32 := 1#32
  let v684 : BitVec 32 := Scalar.muli v8 c1_i32_731
  let v685 : BitVec 32 := Scalar.addi v683 v684
  v685.toNat
def k0_dev129 (d0 : Dev nD) : Nat :=
  let c0_i32_752 : BitVec 32 := 0#32
  let c1_i32_749 : BitVec 32 := 1#32
  let c4_i32_751 : BitVec 32 := 4#32
  let v702 : BitVec 32 := Scalar.muli c1_i32_749 c4_i32_751
  let v703 : BitVec 32 := Scalar.addi c0_i32_752 v702
  let c0_i32_750 : BitVec 32 := 0#32
  let c2_i32_753 : BitVec 32 := 2#32
  let v704 : BitVec 32 := Scalar.muli c0_i32_750 c2_i32_753
  let v705 : BitVec 32 := Scalar.addi v703 v704
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_754 : BitVec 32 := 1#32
  let v706 : BitVec 32 := Scalar.muli v8 c1_i32_754
  let v707 : BitVec 32 := Scalar.addi v705 v706
  v707.toNat
def k0_dev130 (d0 : Dev nD) : Nat :=
  let c0_i32_790 : BitVec 32 := 0#32
  let c0_i32_787 : BitVec 32 := 0#32
  let c4_i32_789 : BitVec 32 := 4#32
  let v733 : BitVec 32 := Scalar.muli c0_i32_787 c4_i32_789
  let v734 : BitVec 32 := Scalar.addi c0_i32_790 v733
  let c1_i32_788 : BitVec 32 := 1#32
  let c2_i32_791 : BitVec 32 := 2#32
  let v735 : BitVec 32 := Scalar.muli c1_i32_788 c2_i32_791
  let v736 : BitVec 32 := Scalar.addi v734 v735
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_792 : BitVec 32 := 1#32
  let v737 : BitVec 32 := Scalar.muli v8 c1_i32_792
  let v738 : BitVec 32 := Scalar.addi v736 v737
  v738.toNat
def k0_dev131 (d0 : Dev nD) : Nat :=
  let c0_i32_813 : BitVec 32 := 0#32
  let c1_i32_810 : BitVec 32 := 1#32
  let c4_i32_812 : BitVec 32 := 4#32
  let v755 : BitVec 32 := Scalar.muli c1_i32_810 c4_i32_812
  let v756 : BitVec 32 := Scalar.addi c0_i32_813 v755
  let c0_i32_811 : BitVec 32 := 0#32
  let c2_i32_814 : BitVec 32 := 2#32
  let v757 : BitVec 32 := Scalar.muli c0_i32_811 c2_i32_814
  let v758 : BitVec 32 := Scalar.addi v756 v757
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_815 : BitVec 32 := 1#32
  let v759 : BitVec 32 := Scalar.muli v8 c1_i32_815
  let v760 : BitVec 32 := Scalar.addi v758 v759
  v760.toNat
abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x1024 : Shape := ⟨2, ![16384, 1024]⟩
abbrev S2x8192x1024 : Shape := ⟨3, ![2, 8192, 1024]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2x8192x1024, .bf16⟩
  | .hbm, ⟨2, _⟩ => ⟨S2x8192x1024, .f32⟩
  | .hbm, ⟨3, _⟩ => ⟨S_, .f32⟩
  | .hbm, ⟨4, _⟩ => ⟨S8192x1024, .f32⟩
  | .hbm, ⟨5, _⟩ => ⟨S8192x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.KernelIdeal.Script.lean ====
/-
  The kernel's body as a list of instructions. Each device runs a fixed sequence of
  sends, waits and additions over chunks of 256 rows; `script c` is that sequence for device c, handshake included, `run` says
  which operations of the program an instruction is, and `body_eq` that the printed body is the script.
-/
module

public import proofs.«01_k».proof.Proof.Gen.KernelIdeal
public import proofs.«01_k».proof.Proof.Gen.KernelIdeal.Launch

@[expose] public section

noncomputable section

namespace Cert.KernelIdeal.Sum

open Idealize.ShloMosaic Idealize.ShloMosaic.TcCoe
open Idealize.SL.Sem
open Cert.KernelIdeal Cert.KernelIdeal.Gen

variable {F : FTy → Type} [FloatOps F]

/-! ## Directions and neighbours -/

/-- The three mesh axes a transfer may follow. -/
inductive Dir
  | z | x | y
  deriving DecidableEq

/-- There are three axes. -/
instance : Fintype Dir := ⟨{.z, .x, .y}, fun k => by cases k <;> decide⟩

/-- The device across axis k: the id is 4x + 2y + z, so one bit of it is flipped. -/
def nbr : Dir → Dev nD → Dev nD
  | .z, c => ![1, 0, 3, 2, 5, 4, 7, 6] c
  | .x, c => ![4, 5, 6, 7, 0, 1, 2, 3] c
  | .y, c => ![2, 3, 0, 1, 6, 7, 4, 5] c

/-- The neighbour's neighbour across the same axis is the device itself. -/
theorem nbr_nbr (k : Dir) (c : Dev nD) : nbr k (nbr k c) = c := by revert k c; decide

/-! ## Which chunks travel where -/

/-- The device's column of the mesh, 2x + y. -/
def col (c : Dev nD) : Fin 4 := ![0, 0, 1, 1, 2, 2, 3, 3] c

/-- Whether the device's x and y agree. -/
def diag (c : Dev nD) : Bool := ![true, false, false, true] (col c)

/-- First chunk and number of chunks of what arrives along axis k: along z the partner's half of the piece the device
    itself adds, along x and y finished chunks of the two other pieces. -/
def inStart (k : Dir) (c : Dev nD) : ℕ :=
  match k with
  | .z => ![0, 11, 22, 0] (col c)
  | .x => ![22, 0, 0, 11] (col c)
  | .y => ![11, 22, 11, 22] (col c)
/-- How many chunks arrive along axis k. -/
def inCount (k : Dir) (c : Dev nD) : ℕ :=
  match k with
  | .z => ![11, 11, 10, 11] (col c)
  | .x => ![10, 11, 11, 11] (col c)
  | .y => ![11, 10, 11, 10] (col c)

/-- The chunk of the j-th arrival along axis k. -/
def inChunk (c : Dev nD) (k : Dir) (j : Fin 11) : Fin 32 := Fin.ofNat 32 (inStart k c + j)

/-- The chunk of the j-th departure along axis k: the device's own piece, except that a diagonal device passes on along y
    what came along x. -/
def outChunk (c : Dev nD) (k : Dir) (j : Fin 11) : Fin 32 :=
  match k with
  | .z => inChunk c .z j
  | .x => inChunk c .z j
  | .y => if diag c then inChunk c .x j else inChunk c .z j

/-! ## The memrefs and semaphores -/

/-- The staged argument, whole. -/
abbrev xM : Memref sig .tc .vmem S8192x1024 .bf16 := Memref.whole cc0_stg0_0
/-- The staged result, whole. -/
abbrev oM : Memref sig .tc .vmem S8192x1024 .bf16 := Memref.whole cc0_stg1_0
/-- The landing buffer, whole. -/
abbrev cM : Memref sig .tc .vmem S2816x1024 .bf16 := Memref.whole cc0_scratch0

/-- Each of the 32 chunks lies in the array. -/
theorem inbO (g : Fin 32) : ∀ a, (![g.val * 256, 0] : Fin 2 → Nat) a + S256x1024.size a ≤ S8192x1024.size a := by
  revert g; decide
/-- Each of the 11 chunks lies in the landing buffer. -/
theorem inbC (j : Fin 11) : ∀ a, (![j.val * 256, 0] : Fin 2 → Nat) a + S256x1024.size a ≤ S2816x1024.size a := by
  revert j; decide
/-- Each of the 11 semaphores lies in its array. -/
theorem inbS (j : Fin 11) : ∀ a, (![j.val] : Fin 1 → Nat) a + S1.size a ≤ S11.size a := by
  revert j; decide

/-- The rectangle of chunk g of a whole array, and of chunk j of the landing buffer. -/
abbrev rO (g : Fin 32) : Rect S8192x1024 := Rect.unit (s := S8192x1024) ![g.val * 256, 0] S256x1024.size (inbO g)
/-- The rectangle of chunk j of the landing buffer. -/
abbrev rC (j : Fin 11) : Rect S2816x1024 := Rect.unit (s := S2816x1024) ![j.val * 256, 0] S256x1024.size (inbC j)

/-- A chunk is made of whole words. -/
theorem wordsO (g : Fin 32) : (rO g).WholeWords (EltTy.packing .bf16) := by revert g; decide
/-- So is one of the landing buffer. -/
theorem wordsC (j : Fin 11) : (rC j).WholeWords (EltTy.packing .bf16) := by revert j; decide
/-- A chunk's rows are packed whole. -/
theorem packedO (g : Fin 32) : (rO g).PackedRows (EltTy.packing .bf16) := by revert g; decide

/-- Chunk g of the argument, chunk g of the result, chunk j of the landing buffer. -/
abbrev xV (g : Fin 32) : Memref sig .tc .vmem S256x1024 .bf16 := xM.slice (rO g) (fun _ => rfl)
/-- Chunk g of the result. -/
abbrev oV (g : Fin 32) : Memref sig .tc .vmem S256x1024 .bf16 := oM.slice (rO g) (fun _ => rfl)
/-- Chunk j of the landing buffer. -/
abbrev cV (j : Fin 11) : Memref sig .tc .vmem S256x1024 .bf16 := cM.slice (rC j) (fun _ => rfl)

/-- A chunk of the argument is addressed by whole words. -/
theorem xV_exact (g : Fin 32) : (xV g).view.WordExact := (Memref.isWhole_whole cc0_stg0_0).wordExact_slice rfl _ (wordsO g)
/-- So is one of the result. -/
theorem oV_exact (g : Fin 32) : (oV g).view.WordExact := (Memref.isWhole_whole cc0_stg1_0).wordExact_slice rfl _ (wordsO g)
/-- So is one of the landing buffer. -/
theorem cV_exact (j : Fin 11) : (cV j).view.WordExact := (Memref.isWhole_whole cc0_scratch0).wordExact_slice rfl _ (wordsC j)

/-- The six arrays of semaphores: departures and arrivals along each axis. -/
def semArr : Bool → Dir → DmaSems sig S11
  | false, .z => cc0_scratch1
  | true, .z => cc0_scratch2
  | false, .x => cc0_scratch3
  | true, .x => cc0_scratch4
  | false, .y => cc0_scratch5
  | true, .y => cc0_scratch6

/-- The j-th semaphore of one of them (`r = true`: of arrivals). -/
abbrev sem (r : Bool) (k : Dir) (j : Fin 11) : DmaSem sig :=
  (((semArr r k).slice (Rect.unit (s := S11) ![j.val] S1.size (inbS j))).squeeze S_ squeezes_S1_S_).sem

/-- The semaphore the barrier counts on. -/
abbrev barS : Sem sig := (SemArray.scalar (sig.barrier 0 rfl) : Sems sig S_).sem

/-! ## Instructions -/

/-- Signal the neighbour across an axis; wait for the three neighbours' signals; start the j-th transfer along an axis; wait
    until the j-th departure is over; wait for the j-th arrival; add chunk j of the landing buffer to the device's own. -/
inductive Instr
  | signal (k : Dir)
  | waitB
  | send (k : Dir) (j : Fin 11)
  | waitS (k : Dir) (j : Fin 11)
  | waitR (k : Dir) (j : Fin 11)
  | add (j : Fin 11)
  deriving DecidableEq

/-- The programs a device runs. -/
abbrev P (F : FTy → Type) : Type 1 := Prog (TpuEff nD τ sig (Elt F) Λ₀ .tc) PUnit

/-- The sum an `add` stores, from what it loaded. -/
abbrev sumOf (v w : Vec F S256x1024 .bf16) : FVec F S256x1024 .bf16 :=
  addf (shapeCast S256x1024 v shapeCasts_S256x1024_S256x1024) w

/-- The program an instruction stands for, followed by K. -/
def run (c : Dev nD) : Instr → P F → P F
  | .signal k, K => .op (.semSignal (Dev.tc (nbr k c)) barS 1) fun _ => K
  | .waitB, K => .op (.semWait barS 3) fun _ => K
  | .send .z j, K => .op (.enqueueDma (xV (outChunk c .z j)) (.remote (Dev.tc (nbr .z c)) (cV j) (.dma (sem false .z j)))
      (.dma (sem true .z j)) (xV_exact _) (cV_exact _) ⟨⟨rfl, Or.inl rfl⟩, trivial⟩) fun _ => K
  | .send k j, K => .op (.enqueueDma (oV (outChunk c k j)) (.remote (Dev.tc (nbr k c)) (oV (outChunk c k j)) (.dma (sem false k j)))
      (.dma (sem true k j)) (oV_exact _) (oV_exact _) ⟨⟨rfl, Or.inl rfl⟩, trivial⟩) fun _ => K
  | .waitS .z j, K => .op (.waitDma2 (sem false .z j) (cV j) (xV (outChunk c .z j)) (cV_exact _) (xV_exact _)) fun _ => K
  | .waitS k j, K => .op (.waitDma2 (sem false k j) (oV (outChunk c k j)) (oV (outChunk c k j)) (oV_exact _) (oV_exact _)) fun _ => K
  | .waitR .z j, K => .op (.waitDma2 (sem true .z j) (xV (inChunk c .z j)) (cV j) (xV_exact _) (cV_exact _)) fun _ => K
  | .waitR k j, K => .op (.waitDma2 (sem true k j) (oV (inChunk c k j)) (oV (inChunk c k j)) (oV_exact _) (oV_exact _)) fun _ => K
  | .add j, K =>
      .op (.load xM (rO (inChunk c .z j)).toLoadRect (View.loadsAt_vmem h_S256x1024)) fun v =>
      .op (.load cM (rC j).toLoadRect (View.loadsAt_vmem h_S256x1024)) fun w =>
      .op (.load oM (rO (inChunk c .z j)).toLoadRect (View.loadsAt_vmem h_S256x1024)) fun _ =>
      .op (.store oM (rO (inChunk c .z j)) (sumOf v w) Finset.univ
        (View.stores_vmem h_S256x1024 ((Memref.isWhole_whole cc0_stg1_0).storeExact_slice rfl _ (packedO _)) (fun _ => rfl)) (.inl rfl)) fun _ => K

/-- A list of instructions as a program. -/
def prog (c : Dev nD) (l : List Instr) : P F := l.foldr (run c) (.ret ⟨⟩)

/-! ## The script -/

/-- 0 … n-1, as indices of the semaphore arrays. -/
def upto (n : ℕ) : List (Fin 11) := (List.range n).map (Fin.ofNat 11)

/-- One trip of the main loop: finish chunk j and send it on; a diagonal device sends on along y what came along x. -/
def trip (c : Dev nD) (j : Fin 11) : List Instr :=
  [.waitS .z j, .waitR .z j, .add j, .send .x j] ++
    (if diag c then (if j.val < inCount .x c then [.waitR .x j, .send .y j] else []) else [.send .y j])
/-- All trips of the main loop. -/
def trips (c : Dev nD) : List Instr := (upto (inCount .z c)).flatMap (trip c)

/-- The wait that ends the departure an instruction starts. -/
def endOf : Instr → List Instr
  | .send k j => [.waitS k j]
  | _ => []

/-- The whole of a device's work: the handshake, its departures along z, the main loop, the arrivals still awaited, the ends
    of the departures along x and y. -/
def script (c : Dev nD) : List Instr :=
  [.signal .z, .signal .x, .signal .y, .waitB]
    ++ (upto (inCount .z c)).map (.send .z) ++ trips c
    ++ (if diag c then [] else (upto (inCount .x c)).map (.waitR .x))
    ++ (upto (inCount .y c)).map (.waitR .y)
    ++ (trips c).flatMap endOf

/-! ## The body -/

/-- The printed body at the kernel's buffers. -/
abbrev body : P F :=
  cc0_body xM (Memref.isWhole_whole _) oM (Memref.isWhole_whole _) cM (Memref.isWhole_whole _)
    cc0_scratch1 cc0_scratch2 cc0_scratch3 cc0_scratch4 cc0_scratch5 cc0_scratch6

/-- The printed body reads the device's number and runs that device's script. -/
theorem body_eq : (body : P F) = .op .deviceId fun c => prog c (script c) :=
  congrArg (Prog.op (E := TpuEff nD τ sig (Elt F) Λ₀ .tc) .deviceId) (funext fun
    | 0 => by chain_rfl
    | 1 => by chain_rfl
    | 2 => by chain_rfl
    | 3 => by chain_rfl
    | 4 => by chain_rfl
    | 5 => by chain_rfl
    | 6 => by chain_rfl
    | 7 => by chain_rfl)

end Cert.KernelIdeal.Sum

end
-- ==== Proof.KernelIdeal.Plan.lean ====
/-
  Who holds what, and when. A device's holdings are a list of tokens (`Res`): a semaphore ready to be used, a transfer in
  flight, a chunk of a buffer in hand. Every instruction takes some tokens (`need`) and returns others (`give`), and may
  block only while what the device still has to pay lies at cells of a higher level (`side`). `plan_ok`: run in order from
  the tokens of the start, the script of every device finds each token it needs and ends with the tokens of the end.
-/
module

public import proofs.«01_k».proof.Proof.KernelIdeal.Script

@[expose] public section

namespace Cert.KernelIdeal.Sum

open Idealize.ShloMosaic Cert.KernelIdeal

/-- A cell of a device: the barrier's semaphore, or the j-th semaphore of an array (`true`: of arrivals). -/
inductive Cell
  | bar
  | dma (r : Bool) (k : Dir) (j : Fin 11)
  deriving DecidableEq

/-- What a device may hold.
    `rdy k j`: the j-th departure along k may be started. `fly k j`: it is under way. `wt k j`: the j-th arrival may be awaited.
    `land k j`: the neighbour's chunk where the j-th departure lands. `fin s`: the cell s is done with, at zero.
    `xch g`: chunk g of the argument. `comm j`: chunk j of the landing buffer, arrived; `commRaw j`: at any contents.
    `outRaw g`: chunk g of the result, at any contents; `outL g`, `outR g`: the two halves of it, finished.
    `btok k`: the right to signal the neighbour across k. `bwt`: the right to wait at the barrier. -/
inductive Res
  | rdy (k : Dir) (j : Fin 11)
  | fly (k : Dir) (j : Fin 11)
  | wt (k : Dir) (j : Fin 11)
  | land (k : Dir) (j : Fin 11)
  | fin (s : Cell)
  | xch (g : Fin 32)
  | comm (j : Fin 11)
  | commRaw (j : Fin 11)
  | outRaw (g : Fin 32)
  | outL (g : Fin 32)
  | outR (g : Fin 32)
  | btok (k : Dir)
  | bwt
  deriving DecidableEq

/-- Departures along k from device c: as many as arrive at the neighbour. -/
def outCount (k : Dir) (c : Dev nD) : ℕ := inCount k (nbr k c)

/-- Whether a semaphore is used at all. -/
def used (c : Dev nD) (r : Bool) (k : Dir) (j : Fin 11) : Bool :=
  decide (j.val < if r then inCount k c else outCount k c)

/-- What a departure reads. -/
def src (c : Dev nD) (k : Dir) (j : Fin 11) : Res :=
  match k with
  | .z => .xch (outChunk c .z j)
  | .x => .outL (outChunk c .x j)
  | .y => .outR (outChunk c .y j)

/-- What an arrival leaves in hand. -/
def arr (c : Dev nD) (k : Dir) (j : Fin 11) : List Res :=
  match k with
  | .z => [.comm j]
  | .x => [.outL (inChunk c .x j), .outR (inChunk c .x j)]
  | .y => [.outL (inChunk c .y j), .outR (inChunk c .y j)]

/-- The chunk an arrival will land in, before it does. -/
def raw (c : Dev nD) (k : Dir) (j : Fin 11) : Res :=
  match k with
  | .z => .commRaw j
  | .x => .outRaw (inChunk c .x j)
  | .y => .outRaw (inChunk c .y j)

/-- The tokens an instruction takes. -/
def need (c : Dev nD) : Instr → List Res
  | .signal k => .btok k :: (upto (inCount k c)).map (raw c k)
  | .waitB => [.bwt]
  | .send k j => [.rdy k j, .land k j, src c k j]
  | .waitS k j => [.fly k j]
  | .waitR k j => [.wt k j]
  | .add j => [.xch (inChunk c .z j), .comm j, .outRaw (inChunk c .z j)]

/-- The landing chunks of the neighbour across k, which its signal hands over. -/
def lands (c : Dev nD) (k : Dir) : List Res := (upto (outCount k c)).map (.land k)

/-- The tokens it returns. -/
def give (c : Dev nD) : Instr → List Res
  | .signal _ => []
  | .waitB => .fin .bar :: (lands c .z ++ (lands c .x ++ lands c .y))
  | .send k j => [.fly k j]
  | .waitS k j => [.fin (.dma false k j), src c k j]
  | .waitR k j => .fin (.dma true k j) :: arr c k j
  | .add j => [.xch (inChunk c .z j), .comm j, .outL (inChunk c .z j), .outR (inChunk c .z j)]

/-! ## Levels -/

/-- The level of a cell of device c. -/
def level (c : Dev nD) : Cell → ℕ
  | .bar => 1
  | .dma false _ _ => 0
  | .dma true .z _ => 2
  | .dma true .x _ => if diag c then 3 else 4
  | .dma true .y _ => 5

/-- The cell of another device an instruction pays into, if it does. -/
def pays (c : Dev nD) : Instr → Option (Dev nD × Cell)
  | .signal k => some (nbr k c, .bar)
  | .send k j => some (nbr k c, .dma true k j)
  | _ => none

/-- Every payment of l is to a cell above level n. -/
def above (c : Dev nD) (n : ℕ) (l : List Instr) : Bool :=
  l.all fun i => match pays c i with
    | none => true
    | some p => decide (n < level p.1 p.2)

/-- What must hold for an instruction to be next, l to follow. -/
def side (c : Dev nD) (l : List Instr) : Instr → Bool
  | .signal _ => true
  | .waitB => above c 1 l
  | .send k j => used c false k j
  | .waitS k j => used c false k j && above c 0 l
  | .waitR k j => used c true k j && above c (level c (.dma true k j)) l
  | .add j => used c true .z j

/-! ## Running a script on tokens -/

/-- Take one token out of a list. -/
def take1 (a : Res) : List Res → Option (List Res)
  | [] => none
  | b :: l => if a = b then some l else (take1 a l).map (b :: ·)

/-- Take several. -/
def takeAll : List Res → List Res → Option (List Res)
  | [], l => some l
  | a :: t, l => (take1 a l).bind (takeAll t)

/-- Run a list of instructions from the tokens S, to end with the tokens E. -/
def check (c : Dev nD) (E : List Res) : List Instr → List Res → Bool
  | [], S => (takeAll E S).isSome
  | i :: l, S => side c l i && match takeAll (need c i) S with
    | none => false
    | some S' => check c E l (give c i ++ S')

/-- The three axes, listed. -/
def dirs : List Dir := [.z, .x, .y]

/-- A semaphore at the start: if it is used, ready; otherwise done with. -/
def start1 (c : Dev nD) (r : Bool) (k : Dir) (j : Fin 11) : Res :=
  if used c r k j then (if r then .wt k j else .rdy k j) else .fin (.dma r k j)

/-- The tokens device c starts with. -/
def start (c : Dev nD) : List Res :=
  (dirs.map .btok ++ [.bwt])
    ++ ([false, true].flatMap fun r => dirs.flatMap fun k => (List.finRange 11).map (start1 c r k))
    ++ (List.finRange 32).map .xch ++ (List.finRange 32).map .outRaw ++ (List.finRange 11).map .commRaw

/-- A chunk of the landing buffer at the end: landed in if it is used. -/
def final1 (c : Dev nD) (j : Fin 11) : Res := if j.val < inCount .z c then .comm j else .commRaw j

/-- The tokens device c ends with. -/
def final (c : Dev nD) : List Res :=
  [.fin .bar]
    ++ ([false, true].flatMap fun r => dirs.flatMap fun k => (List.finRange 11).map fun j => .fin (.dma r k j))
    ++ (List.finRange 32).map .xch ++ (List.finRange 32).map .outL ++ (List.finRange 32).map .outR ++ (List.finRange 11).map (final1 c)

set_option maxRecDepth 100000 in
/-- Every device's script goes through. -/
theorem plan_ok (c : Dev nD) : check c (final c) (script c) (start c) = true := by revert c; decide +kernel

end Cert.KernelIdeal.Sum

end
-- ==== Proof.KernelIdeal.Chunks.lean ====
/-
  The chunks of the three buffers. A whole array is 32 chunks of 256 rows, the landing buffer 11; `owner c g` is the device, of those
  with device c's z coordinate, that adds chunk g.
-/
module

public import proofs.«01_k».proof.Proof.KernelIdeal.Plan
public import Idealize.ShloMosaic.Lib.Pipeline.Launch
public import Idealize.ShloMosaic.Lib.Tactic

@[expose] public section

noncomputable section

namespace Cert.KernelIdeal.Sum

open Idealize.ShloMosaic Idealize.ShloMosaic.TcCoe
open Cert.KernelIdeal Cert.KernelIdeal.Gen

variable {F : FTy → Type} [FloatOps F]

/-! ## Where a chunk lies -/

/-- Entry p of a chunk of 256 rows, moved to chunk n of a taller array. -/
theorem emb_rO (g : Fin 32) (p : S256x1024.Idx) (a : Fin 2) :
    ((rO g).emb p a).val = (![g.val * 256, 0] : Fin 2 → ℕ) a + (p a).val := by
  rw [Rect.emb_apply]
  show _ + 1 * _ = _
  rw [Nat.one_mul]; rfl
/-- The same for the landing buffer. -/
theorem emb_rC (j : Fin 11) (p : S256x1024.Idx) (a : Fin 2) :
    ((rC j).emb p a).val = (![j.val * 256, 0] : Fin 2 → ℕ) a + (p a).val := by
  rw [Rect.emb_apply]
  show _ + 1 * _ = _
  rw [Nat.one_mul]; rfl

/-- The chunk a row of a whole array lies in, and of the landing buffer. -/
def chunkO (i : S8192x1024.Idx) : Fin 32 := ⟨(i 0).val / 256, by have : (i 0).val < 8192 := (i 0).isLt; omega⟩
/-- The chunk a row of the landing buffer lies in. -/
def chunkC (i : S2816x1024.Idx) : Fin 11 := ⟨(i 0).val / 256, by have : (i 0).val < 2816 := (i 0).isLt; omega⟩

/-- The entries of chunk g's rectangle are those whose row lies in chunk g. -/
theorem mem_rO (g : Fin 32) (i : S8192x1024.Idx) : i ∈ (rO g).set ↔ chunkO i = g := by
  rw [Rect.mem_set_unit, Fin.ext_iff]
  have h1 : (i 1).val < 1024 := (i 1).isLt
  constructor
  · intro h
    obtain ⟨h2, h3⟩ := h 0
    have h2 : g.val * 256 ≤ (i 0).val := h2
    have h3 : (i 0).val < g.val * 256 + 256 := h3
    show (i 0).val / 256 = g.val
    omega
  · intro h
    have h : (i 0).val / 256 = g.val := h
    intro a
    fin_cases a
    · show g.val * 256 ≤ (i 0).val ∧ (i 0).val < g.val * 256 + 256
      omega
    · show 0 ≤ (i 1).val ∧ (i 1).val < 0 + 1024
      omega
/-- The same for the landing buffer. -/
theorem mem_rC (j : Fin 11) (i : S2816x1024.Idx) : i ∈ (rC j).set ↔ chunkC i = j := by
  rw [Rect.mem_set_unit, Fin.ext_iff]
  have h1 : (i 1).val < 1024 := (i 1).isLt
  constructor
  · intro h
    obtain ⟨h2, h3⟩ := h 0
    have h2 : j.val * 256 ≤ (i 0).val := h2
    have h3 : (i 0).val < j.val * 256 + 256 := h3
    show (i 0).val / 256 = j.val
    omega
  · intro h
    have h : (i 0).val / 256 = j.val := h
    intro a
    fin_cases a
    · show j.val * 256 ≤ (i 0).val ∧ (i 0).val < j.val * 256 + 256
      omega
    · show 0 ≤ (i 1).val ∧ (i 1).val < 0 + 1024
      omega

/-- An entry of chunk g lies in chunk g. -/
theorem chunkO_emb (g : Fin 32) (p : S256x1024.Idx) : chunkO ((rO g).emb p) = g :=
  (mem_rO g _).mp (by rw [← Rect.map_emb_univ]; exact Finset.mem_map_of_mem _ (Finset.mem_univ p))

/-- Different chunks share no entry. -/
theorem rO_disjoint (g g' : Fin 32) (h : g ≠ g') : Disjoint (rO g).set (rO g').set :=
  Finset.disjoint_left.mpr fun i hi hi' => h (((mem_rO g i).mp hi).symm.trans ((mem_rO g' i).mp hi'))
/-- The same for the landing buffer. -/
theorem rC_disjoint (j j' : Fin 11) (h : j ≠ j') : Disjoint (rC j).set (rC j').set :=
  Finset.disjoint_left.mpr fun i hi hi' => h (((mem_rC j i).mp hi).symm.trans ((mem_rC j' i).mp hi'))
/-- The 32 chunks are the whole array. -/
theorem rO_cover : Finset.univ.biUnion (fun g => (rO g).set) = Finset.univ :=
  Finset.eq_univ_of_forall fun i => Finset.mem_biUnion.mpr ⟨chunkO i, Finset.mem_univ _, (mem_rO _ i).mpr rfl⟩
/-- The 11 chunks are the whole landing buffer. -/
theorem rC_cover : Finset.univ.biUnion (fun j => (rC j).set) = Finset.univ :=
  Finset.eq_univ_of_forall fun i => Finset.mem_biUnion.mpr ⟨chunkC i, Finset.mem_univ _, (mem_rC _ i).mpr rfl⟩

/-! ## Who adds which chunk -/

/-- The device of c's z-plane that adds chunk g. -/
def owner (c : Dev nD) (g : Fin 32) : Dev nD :=
  Fin.ofNat 8 ((if g.val < 11 then (![0, 6, 0, 6] : Fin 4 → ℕ) ⟨c.val / 2, by have : c.val < 8 := c.isLt; omega⟩
    else if g.val < 22 then 2 else 4) + c.val % 2)

/-- A chunk that device c adds has c for its owner. -/
theorem owner_own (c : Dev nD) (j : Fin 11) (h : used c true .z j = true) : owner c (inChunk c .z j) = c := by
  revert c j; decide +kernel
/-- Two neighbours across x or y agree on the owner of a chunk that passes between them. -/
theorem owner_out (c : Dev nD) (k : Dir) (hk : k ≠ .z) (j : Fin 11) (h : used c false k j = true) :
    owner (nbr k c) (outChunk c k j) = owner c (outChunk c k j) := by
  revert c k j; decide +kernel
/-- What leaves as the j-th chunk arrives as the j-th. -/
theorem in_eq_out (c : Dev nD) (k : Dir) (j : Fin 11) (h : used c false k j = true) :
    inChunk (nbr k c) k j = outChunk c k j := by
  revert c k j; decide +kernel
/-- The chunks that arrive along z are consecutive. -/
theorem inChunk_z_val (c : Dev nD) (j : Fin 11) (h : used c true .z j = true) : (inChunk c .z j).val = inStart .z c + j.val := by
  revert c j; decide +kernel
/-- An arrival's semaphore is used if the neighbour's departure is. -/
theorem used_nbr (c : Dev nD) (k : Dir) (j : Fin 11) : used (nbr k c) true k j = used c false k j := by
  revert c k j; decide +kernel

end Cert.KernelIdeal.Sum

end
-- ==== Proof.KernelIdeal.Contents.lean ====
/-
  What the buffers come to hold, and that each store and each landing leaves just that. Device c's argument block is `xstg c`;
  its landing buffer is filled with rows of its z-partner's block (`commF c`); entry i of its result is, in the end, the sum of the
  two blocks of the pair of devices that adds i's chunk (`outF c`).
-/
module

public import proofs.«01_k».proof.Proof.KernelIdeal.Chunks
public import Idealize.ShloMosaic.Lib.Pipeline.Value

@[expose] public section

noncomputable section

namespace Cert.KernelIdeal.Sum

open Idealize.ShloMosaic Idealize.ShloMosaic.TcCoe
open Cert.KernelIdeal Cert.KernelIdeal.Gen

variable {F : FTy → Type} [FloatOps F]
variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- Device c's block of the argument, staged. -/
def xstg (c : Dev nD) : (cc0_stg0_0 : Ref sig .tc).ty.Contents (Elt F) :=
  (win0_0.blk (0 : Fin 1)).view.read (Elt F) ((s₀ m ρ).mem ((c : Thread nD τ).loc main_arg0))

/-- The row of the partner's block that row i of c's landing buffer is. -/
def moved (c : Dev nD) (i : S2816x1024.Idx) : S8192x1024.Idx := fun a => match a with
  | 0 => ⟨(inStart .z c * 256 + (i 0).val) % 8192, Nat.mod_lt _ (by decide)⟩
  | 1 => i 1

/-- What device c's landing buffer is filled with: rows of its z-partner's block. -/
def commF (c : Dev nD) : (cc0_scratch0 : Ref sig .tc).ty.Contents (Elt F) := fun i => xstg m ρ (nbr .z c) (moved c i)

/-- The sum of the two blocks of device o and its z-partner at an entry, device o's first. -/
def pairSum (o : Dev nD) (i : S8192x1024.Idx) : Elt F .bf16 :=
  (FloatOps.addf (F := F) (φ := .bf16) (xstg m ρ o i) (xstg m ρ (nbr .z o) i) : F .bf16)

/-- What device c's result holds in the end: at each entry the sum of the blocks of the chunk's owner and its z-partner. -/
def outF (c : Dev nD) : (cc0_stg1_0 : Ref sig .tc).ty.Contents (Elt F) := fun i => pairSum m ρ (owner c (chunkO i)) i

/-! ## Reads and writes of a chunk, entry by entry -/

/-- Entry p of chunk g of the argument. -/
theorem read_xV (f : (cc0_stg0_0 : Ref sig .tc).ty.Contents (Elt F)) (g : Fin 32) (p : S256x1024.Idx) :
    (xV g).view.read (Elt F) f p = f ((rO g).emb p) := rfl
/-- Entry p of chunk g of the result. -/
theorem read_oV (f : (cc0_stg1_0 : Ref sig .tc).ty.Contents (Elt F)) (g : Fin 32) (p : S256x1024.Idx) :
    (oV g).view.read (Elt F) f p = f ((rO g).emb p) := rfl
/-- Entry p of chunk j of the landing buffer. -/
theorem read_cV (f : (cc0_scratch0 : Ref sig .tc).ty.Contents (Elt F)) (j : Fin 11) (p : S256x1024.Idx) :
    (cV j).view.read (Elt F) f p = f ((rC j).emb p) := rfl

/-- What a write to chunk g leaves at its entry p. -/
theorem write_oV (f : (cc0_stg1_0 : Ref sig .tc).ty.Contents (Elt F)) (w : S256x1024.Idx → Elt F .bf16) (g : Fin 32) (p : S256x1024.Idx) :
    (oV g).view.write (Elt F) f w Finset.univ ((rO g).emb p) = w p :=
  (oV g).view.write_emb_of_mem f w (Finset.mem_univ p)
/-- The same for the landing buffer. -/
theorem write_cV (f : (cc0_scratch0 : Ref sig .tc).ty.Contents (Elt F)) (w : S256x1024.Idx → Elt F .bf16) (j : Fin 11) (p : S256x1024.Idx) :
    (cV j).view.write (Elt F) f w Finset.univ ((rC j).emb p) = w p :=
  (cV j).view.write_emb_of_mem f w (Finset.mem_univ p)

/-- An entry of a chunk is the image of one of its own entries. -/
theorem of_mem_oV {g : Fin 32} {i : S8192x1024.Idx} (h : i ∈ (oV g).view.set) : ∃ p, i = (rO g).emb p := by
  obtain ⟨p, -, hp⟩ := Finset.mem_map.mp h
  exact ⟨p, hp.symm⟩
/-- The same for the landing buffer. -/
theorem of_mem_cV {j : Fin 11} {i : S2816x1024.Idx} (h : i ∈ (cV j).view.set) : ∃ p, i = (rC j).emb p := by
  obtain ⟨p, -, hp⟩ := Finset.mem_map.mp h
  exact ⟨p, hp.symm⟩

/-- Entry p of landing chunk j is entry p of the chunk it is a copy of. -/
theorem moved_emb (c : Dev nD) (j : Fin 11) (h : used c true .z j = true) (p : S256x1024.Idx) :
    moved c ((rC j).emb p) = (rO (inChunk c .z j)).emb p := by
  have hg := inChunk_z_val c j h
  have hl : (inChunk c .z j).val < 32 := (inChunk c .z j).isLt
  have hp : (p 0).val < 256 := (p 0).isLt
  funext a
  apply Fin.ext
  fin_cases a
  · show (inStart .z c * 256 + ((rC j).emb p 0).val) % 8192 = ((rO (inChunk c .z j)).emb p 0).val
    have e1 : ((rC j).emb p 0).val = j.val * 256 + (p 0).val := emb_rC j p 0
    have e2 : ((rO (inChunk c .z j)).emb p 0).val = (inChunk c .z j).val * 256 + (p 0).val := emb_rO _ p 0
    rw [e1, e2]
    omega
  · show ((rC j).emb p 1).val = ((rO (inChunk c .z j)).emb p 1).val
    rw [emb_rC, emb_rO]; rfl

/-! ## What the store and the landings leave -/

/-- Adding chunk j leaves the chunk's sums. -/
theorem add_leaves (c : Dev nD) (j : Fin 11) (h : used c true .z j = true) (f : (cc0_stg1_0 : Ref sig .tc).ty.Contents (Elt F))
    (i : S8192x1024.Idx) (hi : i ∈ (oV (inChunk c .z j)).view.set) :
    (oV (inChunk c .z j)).view.write (Elt F) f
      (sumOf ((xV (inChunk c .z j)).view.read (Elt F) (xstg m ρ c)) ((cV j).view.read (Elt F) (commF m ρ c))) Finset.univ i = outF m ρ c i := by
  obtain ⟨p, rfl⟩ := of_mem_oV hi
  rw [write_oV]
  unfold outF pairSum
  rw [chunkO_emb, owner_own c j h]
  unfold sumOf
  rw [shapeCast_self]
  show FloatOps.addf (F := F) (φ := .bf16) (xstg m ρ c _) (commF m ρ c ((rC j).emb p)) = _
  unfold commF
  rw [moved_emb c j h]
  rfl

/-- A departure along z fills the partner's landing chunk. -/
theorem z_leaves (c : Dev nD) (j : Fin 11) (h : used c false .z j = true) (f : (cc0_scratch0 : Ref sig .tc).ty.Contents (Elt F))
    (i : S2816x1024.Idx) (hi : i ∈ (cV j).view.set) :
    (cV j).view.write (Elt F) f ((xV (outChunk c .z j)).view.read (Elt F) (xstg m ρ c)) Finset.univ i = commF m ρ (nbr .z c) i := by
  obtain ⟨p, rfl⟩ := of_mem_cV hi
  rw [write_cV]
  unfold commF
  rw [moved_emb (nbr .z c) j ((used_nbr c .z j).trans h), in_eq_out c .z j h, nbr_nbr]
  rfl

/-- A departure along x or y leaves at the neighbour what its result is to hold there. -/
theorem xy_leaves (c : Dev nD) (k : Dir) (hk : k ≠ .z) (j : Fin 11) (h : used c false k j = true)
    (f : (cc0_stg1_0 : Ref sig .tc).ty.Contents (Elt F)) (i : S8192x1024.Idx) (hi : i ∈ (oV (outChunk c k j)).view.set) :
    (oV (outChunk c k j)).view.write (Elt F) f ((oV (outChunk c k j)).view.read (Elt F) (outF m ρ c)) Finset.univ i = outF m ρ (nbr k c) i := by
  obtain ⟨p, rfl⟩ := of_mem_oV hi
  rw [write_oV, read_oV]
  unfold outF
  rw [chunkO_emb, owner_out c k hk j h]

end Cert.KernelIdeal.Sum

end
-- ==== Proof.KernelIdeal.Cells.lean ====
/-
  The protocol's cells and their schedule. Every device has 67 cells: the barrier's, and one per semaphore of the six arrays.
  Each has a single round. The barrier's is paid by the three neighbours, each payment bringing the chunks the payer's
  buffers lend for landings; an arrival's brings the landed chunk; a departure's the chunk that was read.
-/
module

public import proofs.«01_k».proof.Proof.KernelIdeal.Contents

@[expose] public section

noncomputable section

namespace Cert.KernelIdeal.Sum

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Ghost state: the staging's copy and this protocol's, its duties named by directions -/

/-- The ghost state of this protocol's rounds. -/
abbrev UD : Type := URounds (GSem nD τ sig) Dir
/-- That of the staging copies beside it. -/
abbrev UU : Type := UR sig nD τ × UD

local notation "𝕄" => MT nD τ sig Unit (Elt F) ℕ UU ℕ

/-- Where the staging copies' ghost state lives. -/
abbrev EP : Emb (UR sig nD τ) (MT nD τ sig Unit (Elt F) ℕ UU ℕ) := embL
/-- Where this protocol's lives. -/
abbrev ER : Emb UD (MT nD τ sig Unit (Elt F) ℕ UU ℕ) := embR

/-! ## The cells -/

/-- A cell's semaphore, and the cell of a semaphore (none for the two of the staging). -/
abbrev semLoc : Cell → SemLoc sig
  | .bar => .reg barS
  | .dma r k j => .dma (sem r k j)

/-- Which array of semaphores comes n-th: of departures (false) or arrivals (true), along which axis. -/
def arrOf : ℕ → Option (Bool × Dir)
  | 0 => some (false, .z) | 1 => some (true, .z) | 2 => some (false, .x) | 3 => some (true, .x) | 4 => some (false, .y) | 5 => some (true, .y)
  | _ => none

/-- The cell of a semaphore. -/
def unsem : SemLoc sig → Option Cell
  | .reg _ => some .bar
  | .dma s => if s.val < 2 then none else (arrOf ((s.val - 2) / 11)).map fun a => .dma a.1 a.2 (Fin.ofNat 11 ((s.val - 2) % 11))

/-- A semaphore of the six arrays is read back as its own cell. -/
theorem unsem_dma (r : Bool) (k : Dir) (j : Fin 11) : unsem (.dma (sem r k j)) = some (.dma r k j) := by
  revert r k j; decide +kernel
/-- So is every cell's semaphore. -/
theorem unsem_semLoc (i : Cell) : unsem (semLoc i) = some i := by
  cases i with
  | bar => rfl
  | dma r k j => exact unsem_dma r k j
/-- Different cells have different semaphores. -/
theorem semLoc_inj {i i' : Cell} (h : semLoc i = semLoc i') : i = i' :=
  Option.some.inj ((unsem_semLoc i).symm.trans ((congrArg unsem h).trans (unsem_semLoc i')))

/-- Cell i of device c. -/
abbrev kcell (p : Dev nD × Cell) : GSem nD τ sig := ((p.1 : Thread nD τ), semLoc p.2)

/-- Different cells of any devices are different semaphores of the mesh. -/
theorem kcell_inj : Function.Injective (kcell : Dev nD × Cell → GSem nD τ sig) := by
  rintro ⟨c, i⟩ ⟨c', i'⟩ h
  have h1 : c = c' := congrArg (fun g : GSem nD τ sig => g.1.1) h
  have h2 : i = i' := semLoc_inj (congrArg Prod.snd h)
  rw [h1, h2]

/-- The credit of a chunk's transfer. -/
abbrev N : ℕ := (cV 0).view.dmaCredit
/-- A chunk's credit is positive. -/
theorem N_pos : 0 < N := View.dmaCredit_pos _ (by decide)
/-- A chunk of the argument has this credit. -/
theorem credit_x (g : Fin 32) : (xV g).view.dmaCredit = N := rfl
/-- So has one of the result. -/
theorem credit_o (g : Fin 32) : (oV g).view.dmaCredit = N := rfl
/-- So has one of the landing buffer. -/
theorem credit_c (j : Fin 11) : (cV j).view.dmaCredit = N := rfl

/-- What a cell counts a payment for. -/
def amt : Cell → ℕ
  | .bar => 1
  | .dma _ _ _ => N
/-- A payment counts for something. -/
theorem amt_pos (i : Cell) : 0 < amt i := by
  cases i with
  | bar => exact Nat.one_pos
  | dma r k j => exact N_pos

/-! ## Chunks in hand -/

variable (m : (ℓ : Loc nD τ sig) → Buf (Elt F) ℓ) (ρ : Dev nD → PrngReg)

/-- Chunk g of device c's argument; chunk g of its result, a share of it, at contents f; chunk j of its landing buffer. -/
def xP (c : Dev nD) (g : Fin 32) : sProp 𝕄 := (xV g).view.loc (c : Thread nD τ) ↦[(xV g).view.set]{fullShare} xstg m ρ c
/-- Chunk g of device c's result, a share q of it, at contents f. -/
def oP (q : PosShare TreeShare) (c : Dev nD) (g : Fin 32) (f : (cc0_stg1_0 : Ref sig .tc).ty.Contents (Elt F)) : sProp 𝕄 :=
  (oV g).view.loc (c : Thread nD τ) ↦[(oV g).view.set]{q} (f : Buf (Elt F) ((oV g).view.loc (c : Thread nD τ)))
/-- Chunk j of device c's landing buffer at contents f. -/
def cP (c : Dev nD) (j : Fin 11) (f : (cc0_scratch0 : Ref sig .tc).ty.Contents (Elt F)) : sProp 𝕄 :=
  (cV j).view.loc (c : Thread nD τ) ↦[(cV j).view.set]{fullShare} (f : Buf (Elt F) ((cV j).view.loc (c : Thread nD τ)))

/-- A chunk of the argument may be kept in a cell. -/
instance xP_storable (c : Dev nD) (g : Fin 32) : BI.Storable (upEmb : UEmb _ 𝕄) (xP (F := F) m ρ c g) := by unfold xP; infer_instance
/-- So may one of the result. -/
instance oP_storable (q : PosShare TreeShare) (c : Dev nD) (g : Fin 32) (f) : BI.Storable (upEmb : UEmb _ 𝕄) (oP (F := F) q c g f) := by unfold oP; infer_instance
/-- So may one of the landing buffer. -/
instance cP_storable (c : Dev nD) (j : Fin 11) (f) : BI.Storable (upEmb : UEmb _ 𝕄) (cP (F := F) c j f) := by unfold cP; infer_instance

/-- A finished chunk of the result is its two halves. -/
theorem oP_halves (c : Dev nD) (g : Fin 32) (f) : (oP fullShare c g f : sProp 𝕄) = iprop(oP fullShare.left c g f ∗ oP fullShare.right c g f) :=
  have h := pointsTo_share (PosShare.mem_left_op_right fullShare)
  equiv_iff.mp ⟨h.1, h.2⟩

/-- A chunk at any contents: of the landing buffer for a z-arrival, of the result for the others. -/
def rawP (c : Dev nD) : Dir → Fin 11 → Fin 32 → sProp 𝕄
  | .z, j, _ => iprop(∃ f, cP c j f)
  | _, _, g => iprop(∃ f, oP fullShare c g f)

/-- So may a chunk at any contents. -/
instance rawP_storable (c : Dev nD) (k : Dir) (j : Fin 11) (g : Fin 32) : BI.Storable (upEmb : UEmb _ 𝕄) (rawP (F := F) c k j g) := by
  cases k <;> (unfold rawP; infer_instance)

/-! ## The schedule -/

/-- What the payment for direction d brings at a cell of device c. -/
def pay (c : Dev nD) (d : Dir) : Cell → sProp 𝕄
  | .bar => bigSepL (upto (outCount d c)) fun j => rawP (nbr d c) d j (outChunk c d j)
  | .dma true .z j => cP c j (commF m ρ c)
  | .dma true k j => oP fullShare c (inChunk c k j) (outF m ρ c)
  | .dma false .z j => xP m ρ c (outChunk c .z j)
  | .dma false .x j => oP fullShare.left c (outChunk c .x j) (outF m ρ c)
  | .dma false .y j => oP fullShare.right c (outChunk c .y j) (outF m ρ c)

/-- A list of what may be kept in a cell may be kept in a cell. -/
theorem bigSepL_storable {I : Type} (l : List I) (Φ : I → sProp 𝕄) (h : ∀ i, BI.Storable (upEmb : UEmb _ 𝕄) (Φ i)) :
    BI.Storable (upEmb : UEmb _ 𝕄) (bigSepL l Φ) := by
  induction l with
  | nil => exact (inferInstance : BI.Storable upEmb (iprop(emp) : sProp 𝕄))
  | cons i l ih => rw [bigSepL_cons]; exact (inferInstance : BI.Storable upEmb iprop(Φ i ∗ bigSepL l Φ))

/-- What a payment brings may be kept in a cell. -/
instance pay_storable (c : Dev nD) (d : Dir) (i : Cell) : BI.Storable (upEmb : UEmb _ 𝕄) (pay (F := F) m ρ c d i) := by
  unfold pay
  split
  · exact bigSepL_storable _ _ fun _ => inferInstance
  all_goals infer_instance

/-- The directions whose payments a cell of device c waits for. -/
def dues (c : Dev nD) : Cell → Finset Dir
  | .bar => Finset.univ
  | .dma r k j => if used c r k j then {.z} else ∅

/-- One round at each cell. -/
def sched : Rounds.Schedule (GSem nD τ sig) Dir 𝕄 where
  duties g r := if r = 0 ∧ g.1.2 = .tc then (match unsem g.2 with | none => ∅ | some i => dues g.1.1 i) else ∅
  unitless _ := False
  amount g _ _ := match unsem g.2 with | none => 1 | some i => amt i
  payload g _ d := match unsem g.2 with | none => iprop(emp) | some i => pay m ρ g.1.1 d i
  amount_pos g _ _ _ := by
    show 0 < (match unsem g.2 with | none => 1 | some i => amt i)
    split
    · exact Nat.one_pos
    · exact amt_pos _

/-- What the schedule says a payment brings may be kept in a cell. -/
instance sched_storable (g : GSem nD τ sig) (r : ℕ) (d : Dir) : BI.Storable (upEmb : UEmb _ 𝕄) ((sched (F := F) m ρ).payload g r d) := by
  show BI.Storable upEmb (match unsem g.2 with | none => iprop(emp) | some i => pay m ρ g.1.1 d i)
  split <;> infer_instance

/-- The payments a cell waits for, read off the schedule. -/
theorem duties_eq (c : Dev nD) (i : Cell) : (sched (F := F) m ρ).duties (kcell (c, i)) 0 = dues c i := by
  show (if 0 = 0 ∧ (c : Thread nD τ).2 = .tc then (match unsem (semLoc i) with | none => ∅ | some i => dues c i) else ∅) = dues c i
  rw [if_pos ⟨rfl, rfl⟩, unsem_semLoc]
/-- No cell has a second round. -/
theorem duties_later (g : GSem nD τ sig) : ∀ r, 1 ≤ r → (sched (F := F) m ρ).duties g r = ∅ := fun r h => by
  show (if r = 0 ∧ g.1.2 = .tc then (match unsem g.2 with | none => ∅ | some i => dues g.1.1 i) else ∅) = ∅
  rw [if_neg fun h' => by omega]
/-- What a payment counts for, read off the schedule. -/
theorem amount_eq (c : Dev nD) (i : Cell) (r : ℕ) (d : Dir) : (sched (F := F) m ρ).amount (kcell (c, i)) r d = amt i := by
  show (match unsem (semLoc i) with | none => 1 | some i => amt i) = amt i
  rw [unsem_semLoc]
/-- What a payment brings, read off the schedule. -/
theorem payload_eq (c : Dev nD) (i : Cell) (r : ℕ) (d : Dir) : (sched (F := F) m ρ).payload (kcell (c, i)) r d = pay m ρ c d i := by
  show (match unsem (semLoc i) with | none => iprop(emp) | some i => pay m ρ c d i) = pay m ρ c d i
  rw [unsem_semLoc]

/-- A semaphore that a transfer uses waits for one payment. -/
theorem dues_used {c : Dev nD} {r : Bool} {k : Dir} {j : Fin 11} (h : used c r k j = true) : dues c (.dma r k j) = {.z} := if_pos h
/-- One that none uses waits for nothing. -/
theorem dues_unused {c : Dev nD} {r : Bool} {k : Dir} {j : Fin 11} (h : used c r k j ≠ true) : dues c (.dma r k j) = ∅ := if_neg h

/-- A transfer's payment is among those its cell waits for. -/
theorem mem_duties (c : Dev nD) (r : Bool) (k : Dir) (j : Fin 11) (h : used c r k j = true) :
    Dir.z ∈ (sched (F := F) m ρ).duties (kcell (c, .dma r k j)) 0 := by
  rw [duties_eq, dues_used h]; exact Finset.mem_singleton_self _
/-- Each neighbour's signal is among those the barrier waits for. -/
theorem mem_duties_bar (c : Dev nD) (k : Dir) : k ∈ (sched (F := F) m ρ).duties (kcell (c, .bar)) 0 := by
  rw [duties_eq]; exact Finset.mem_univ _

/-- The barrier waits for three units. -/
theorem expect_bar (c : Dev nD) : (sched (F := F) m ρ).expect (kcell (c, .bar)) 0 = 3 := by
  unfold Schedule.expect Schedule.amountOf
  rw [duties_eq, Finset.sum_congr rfl fun d _ => amount_eq m ρ c .bar 0 d]
  rfl
/-- A used semaphore waits for a chunk's credit. -/
theorem expect_dma (c : Dev nD) (r : Bool) (k : Dir) (j : Fin 11) (h : used c r k j = true) :
    (sched (F := F) m ρ).expect (kcell (c, .dma r k j)) 0 = N := by
  unfold Schedule.expect Schedule.amountOf
  rw [duties_eq, dues_used h, Finset.sum_singleton, amount_eq]; rfl

/-- All that a used semaphore's payments bring. -/
theorem rest_dma (c : Dev nD) (r : Bool) (k : Dir) (j : Fin 11) (h : used c r k j = true) :
    bigSep ((sched (F := F) m ρ).duties (kcell (c, .dma r k j)) 0 \ ∅) (fun d => (sched (F := F) m ρ).payload (kcell (c, .dma r k j)) 0 d)
      = pay m ρ c .z (.dma r k j) := by
  rw [Finset.sdiff_empty, duties_eq, dues_used h, bigSep_singleton, payload_eq]
/-- All that the three signals bring. -/
theorem rest_bar (c : Dev nD) :
    bigSep ((sched (F := F) m ρ).duties (kcell (c, .bar)) 0 \ ∅) (fun d => (sched (F := F) m ρ).payload (kcell (c, .bar)) 0 d)
      = iprop(pay m ρ c .z .bar ∗ pay m ρ c .x .bar ∗ pay m ρ c .y .bar) := by
  rw [Finset.sdiff_empty, duties_eq]
  show bigSep Finset.univ _ = _
  rw [bigSep_univ_eq_bigSepL dirs (by decide) (by decide)]
  show iprop((sched (F := F) m ρ).payload (kcell (c, .bar)) 0 .z ∗ (sched (F := F) m ρ).payload (kcell (c, .bar)) 0 .x
    ∗ (sched (F := F) m ρ).payload (kcell (c, .bar)) 0 .y) = _
  rw [payload_eq, payload_eq, payload_eq]

end Cert.KernelIdeal.Sum

end
-- ==== Proof.KernelIdeal.Holdings.lean ====
/-
  The tokens as assertions (`den`), what a device still has to pay (`owed`), the levels, and the facts every device shares
  (`shared`): each cell's invariant, that each cell has begun its round, and the levels.
-/
module

public import proofs.«01_k».proof.Proof.KernelIdeal.Cells

@[expose] public section

noncomputable section

namespace Cert.KernelIdeal.Sum

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The cells of a device, all 67. -/
instance : Fintype Cell :=
  ⟨insert .bar ((Finset.univ : Finset (Bool × Dir × Fin 11)).image fun a => .dma a.1 a.2.1 a.2.2), fun i => by
    cases i with
    | bar => exact Finset.mem_insert_self _ _
    | dma r k j => exact Finset.mem_insert_of_mem (Finset.mem_image.mpr ⟨(r, k, j), Finset.mem_univ _, rfl⟩)⟩

/-- What a token stands for. -/
def den (c : Dev nD) : Res → sProp 𝕄
  | .rdy k j => iprop(atPos ER (kcell (c, .dma false k j)) 0 ∅ 0 ∗ dutyTok ER (kcell (c, .dma false k j)) 0 .z
      ∗ dutyTok ER (kcell (nbr k c, .dma true k j)) 0 .z)
  | .fly k j => iprop(atPos ER (kcell (c, .dma false k j)) 0 ∅ 0 ∗ cred (tallyAt (kcell (c, .dma false k j)) () N))
  | .wt k j => iprop(atPos ER (kcell (c, .dma true k j)) 0 ∅ 0 ∗ cred (tallyAt (kcell (c, .dma true k j)) () N))
  | .land k j => rawP (nbr k c) k j (outChunk c k j)
  | .fin s => semVal (kcell (c, s)) 0
  | .xch g => xP m ρ c g
  | .comm j => cP c j (commF m ρ c)
  | .commRaw j => iprop(∃ f, cP c j f)
  | .outRaw g => iprop(∃ f, oP fullShare c g f)
  | .outL g => oP fullShare.left c g (outF m ρ c)
  | .outR g => oP fullShare.right c g (outF m ρ c)
  | .btok k => dutyTok ER (kcell (nbr k c, .bar)) 0 k
  | .bwt => iprop(atPos ER (kcell (c, .bar)) 0 ∅ 0 ∗ cred (tallyAt (kcell (c, .bar)) () 3))

/-! ## Debts and levels -/

/-- What device c owes while l is still to run. -/
def owed (c : Dev nD) : List Instr → CellTallies nD τ sig Unit
  | [] => 0
  | i :: l => match pays c i with
    | none => owed c l
    | some p => owed c l + tallyAt (kcell p) () (amt p.2)

/-- Which semaphores carry a level: those of the cores that run the kernel. -/
def L (g : GSem nD τ sig) : Finset Unit := if g.1.2 = .tc then {()} else ∅
/-- A semaphore's level: its cell's, or zero for the staging copies'. -/
def lv (g : GSem nD τ sig) (_ : Unit) : ℕ := match unsem g.2 with
  | none => 0
  | some i => level g.1.1 i

/-- No other core's semaphore carries one. -/
theorem L_of_ne (g : GSem nD τ sig) (h : g.1.2 ≠ .tc) : L g = ∅ := if_neg h
/-- Every one of these cores does. -/
theorem L_tc (c : Dev nD) (s : SemLoc sig) : L ((c : Thread nD τ), s) = {()} := if_pos rfl
/-- A cell's level. -/
theorem lv_cell (p : Dev nD × Cell) (u : Unit) : lv (kcell p) u = level p.1 p.2 := by
  unfold lv; rw [unsem_semLoc]

/-- Only cells an instruction pays are owed anything; if all those lie above n, so does what is owed. -/
theorem owed_above (c : Dev nD) (n : ℕ) (l : List Instr) (h : above c n l = true) (g : GSem nD τ sig) (u : Unit)
    (hg : 0 < owed c l g u) : ∃ p, g = kcell p ∧ n < level p.1 p.2 := by
  induction l with
  | nil => exact absurd hg (Nat.lt_irrefl 0)
  | cons i l ih =>
    unfold above at h
    rw [List.all_cons, Bool.and_eq_true] at h
    unfold owed at hg
    cases hp : pays c i with
    | none => rw [hp] at hg; exact ih h.2 hg
    | some p =>
      rw [hp] at hg
      have h1 := h.1
      rw [hp] at h1
      by_cases e : g = kcell p
      · exact ⟨p, e, of_decide_eq_true h1⟩
      · refine ih h.2 ?_
        have hg : 0 < (owed c l + tallyAt (kcell p) () (amt p.2)) g u := hg
        rw [Pi.add_apply, Finsupp.add_apply, tallyAt_apply, if_neg fun h' => e h'.1, Nat.add_zero] at hg
        exact hg

/-- A device may wait at a semaphore of level n while all it owes lies above n. -/
theorem mayWait (c : Dev nD) (s : SemLoc sig) (n : ℕ) (hs : lv ((c : Thread nD τ), s) () ≤ n) (l : List Instr) (h : above c n l = true) :
    (levAts L lv : sProp 𝕄) ⊢ MayWait (c : Thread nD τ) s () (owed c l) :=
  MayOwe.of_cut (L := L) (lev := lv) n (fun p hp => by rw [Finset.mem_singleton.mp hp, L_tc]; exact Finset.mem_singleton_self _)
    (fun g u hg => by
      obtain ⟨p, rfl, -⟩ := owed_above c n l h g u hg
      exact Finset.mem_singleton_self _)
    (fun p hp => by rw [Finset.mem_singleton.mp hp]; exact hs)
    (fun g u hg => by
      obtain ⟨p, rfl, hp⟩ := owed_above c n l h g u hg
      rw [lv_cell]; exact hp)

/-- Device c's debt, whatever it has waited for so far. -/
def debt (c : Dev nD) (l : List Instr) : sProp 𝕄 := iprop(∃ W, owes (c : Thread nD τ) (owed c l) W)

/-! ## What every device shares -/

/-- Each cell's invariant, and that its round has begun. -/
def records (K : Dev nD × Cell → ℕ) : sProp 𝕄 :=
  iprop((bigSep Finset.univ fun p : Dev nD × Cell => cellInv ER (sched m ρ) (K p) (kcell p))
    ∗ bigSep Finset.univ fun p : Dev nD × Cell => reached ER (kcell p) 0)

/-- This can be known to all at once. -/
instance records_persistent (K : Dev nD × Cell → ℕ) : BI.Persistent (records m ρ K) := by unfold records; infer_instance

/-- What every device knows: the records and the levels. -/
def shared (K : Dev nD × Cell → ℕ) : sProp 𝕄 := iprop(records m ρ K ∗ levAts L lv)

/-- This can be known to all at once. -/
instance shared_persistent (K : Dev nD × Cell → ℕ) : BI.Persistent (shared m ρ K) := by unfold shared; infer_instance

/-- Every device knows each cell's invariant, -/
theorem shared_inv (K : Dev nD × Cell → ℕ) (p : Dev nD × Cell) : shared m ρ K ⊢ cellInv ER (sched m ρ) (K p) (kcell p) := by
  have h : (bigSep Finset.univ fun p : Dev nD × Cell => (cellInv ER (sched m ρ) (K p) (kcell p) : sProp 𝕄))
      ⊢ cellInv ER (sched m ρ) (K p) (kcell p) := bigSep_elim (Finset.mem_univ p)
  unfold shared records
  iintro ⟨⟨H, -⟩, -⟩
  iapply h; iexact H
/-- that each cell's round has begun, -/
theorem shared_reached (K : Dev nD × Cell → ℕ) (p : Dev nD × Cell) : shared m ρ K ⊢ reached ER (kcell p) 0 := by
  have h : (bigSep Finset.univ fun p : Dev nD × Cell => (reached ER (kcell p) 0 : sProp 𝕄)) ⊢ reached ER (kcell p) 0 :=
    bigSep_elim (Finset.mem_univ p)
  unfold shared records
  iintro ⟨⟨-, H⟩, -⟩
  iapply h; iexact H
/-- and the levels. -/
theorem shared_levels (K : Dev nD × Cell → ℕ) : shared m ρ K ⊢ (levAts L lv : sProp 𝕄) := by
  unfold shared
  iintro ⟨-, H⟩
  iexact H

end Cert.KernelIdeal.Sum

end
-- ==== Proof.KernelIdeal.Steps.lean ====
/-
  One rule per instruction: from the tokens it needs and the device's debt, running it leaves the tokens it gives and the
  debt of what follows.
-/
module

public import proofs.«01_k».proof.Proof.KernelIdeal.Holdings
public import Idealize.ShloMosaic.Lib.Pipeline.BigSepL

@[expose] public section

noncomputable section

namespace Cert.KernelIdeal.Sum

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- No call recurses. -/
abbrev 𝒱₀ : Variants := Variants.none

/-- The body's program K establishes Q on device c. -/
abbrev Runs (c : Dev nD) (K : P F) (Q : PUnit → sProp 𝕄) : sProp 𝕄 :=
  wp frame (wpE (defs₀ (F := F)) 𝒱₀ (c : Thread nD τ) none) Set.univ K Q

variable (K : Dev nD × Cell → ℕ)

/-! ## Waiting -/

/-- A wait at a used cell of an array, everything owed lying above it: the cell closes and its payload is in hand. -/
theorem step_wait (c : Dev nD) (r : Bool) (k : Dir) (j : Fin 11) (h : used c r k j = true) (l : List Instr)
    (ha : above c (level c (.dma r k j)) l = true) (w : TpuEff nD τ sig (Elt F) Λ₀ .tc PUnit)
    (hw : ∀ Kt : PUnit → sProp 𝕄, wpE (defs₀ (F := F)) 𝒱₀ (c : Thread nD τ) none Set.univ w Kt
      = waitSpec (c : Thread nD τ) Set.univ (.dma (sem r k j)) N Kt)
    (p : P F) (Q : PUnit → sProp 𝕄) :
    iprop(shared m ρ K ∗ (atPos ER (kcell (c, .dma r k j)) 0 ∅ 0 ∗ cred (tallyAt (kcell (c, .dma r k j)) () N)) ∗ debt c l)
      ⊢ iprop(((semVal (kcell (c, .dma r k j)) 0 ∗ pay m ρ c .z (.dma r k j)) -∗ debt c l -∗ Runs c p Q) -∗ Runs c (.op w fun _ => p) Q) := by
  unfold debt
  iintro ⟨#HS, ⟨Hat, Hcr⟩, ⟨%W, HO⟩⟩ Hk
  iapply (Rounds.wp_wait_rest_token 𝒱₀ ER (sched m ρ) (c : Thread nD τ) none (κ := K (c, .dma r k j)) hw (Set.mem_univ _) ()
      (O := owed c l) (W := W) (R := 0) (m := 0) (T := ∅) (by rw [Nat.zero_add]; exact (expect_dma m ρ c r k j h).symm)) $$ [HO Hat Hcr]
  · isplitr; · iapply (shared_inv m ρ K (c, .dma r k j)); iexact HS
    isplitl [Hcr]; · iexact Hcr
    isplitl [HO]; · iexact HO
    isplitr
    · iapply (mayWait c _ _ (le_of_eq (lv_cell (c, .dma r k j) ())) l ha); iapply (shared_levels m ρ K); iexact HS
    iexact Hat
  iintro ⟨HO, Hat, -, Hpay⟩
  ihave Hp := (Entails.of_eq (rest_dma m ρ c r k j h)) $$ Hpay
  imod (Rounds.cell_close ER (sched m ρ) (Set.mem_univ (K (c, .dma r k j))) (fun h => h) (R := 0 + 1) (duties_later m ρ (kcell (c, .dma r k j)))) $$ [Hat] with Hz
  · isplitr; · iapply (shared_inv m ρ K (c, .dma r k j)); iexact HS
    iexact Hat
  iapply Hk $$ [Hz Hp]
  · isplitl [Hz]; · iexact Hz
    iexact Hp
  iexists _; iexact HO

/-- The wait at the barrier: the chunks the three neighbours lend are in hand. -/
theorem step_barrier (c : Dev nD) (l : List Instr) (ha : above c 1 l = true) (p : P F) (Q : PUnit → sProp 𝕄) :
    iprop(shared m ρ K ∗ den m ρ c .bwt ∗ debt c l)
      ⊢ iprop(((semVal (kcell (c, .bar)) 0 ∗ (pay m ρ c .z .bar ∗ pay m ρ c .x .bar ∗ pay m ρ c .y .bar)) -∗ debt c l -∗ Runs c p Q)
        -∗ Runs c (run c .waitB p) Q) := by
  unfold debt
  show iprop(shared m ρ K ∗ (atPos ER (kcell (c, .bar)) 0 ∅ 0 ∗ cred (tallyAt (kcell (c, .bar)) () 3)) ∗ _) ⊢ _
  iintro ⟨#HS, ⟨Hat, Hcr⟩, ⟨%W, HO⟩⟩ Hk
  iapply (Rounds.wp_wait_rest_token 𝒱₀ ER (sched m ρ) (c : Thread nD τ) none (κ := K (c, .bar))
      (wpE_semWait_eq 𝒱₀ (c : Thread nD τ) none Set.univ) (Set.mem_univ _) ()
      (O := owed c l) (W := W) (R := 0) (m := 0) (T := ∅) (by rw [Nat.zero_add]; exact (expect_bar m ρ c).symm)) $$ [HO Hat Hcr]
  · isplitr; · iapply (shared_inv m ρ K (c, .bar)); iexact HS
    isplitl [Hcr]; · iexact Hcr
    isplitl [HO]; · iexact HO
    isplitr
    · iapply (mayWait c _ 1 (le_of_eq (lv_cell (c, .bar) ())) l ha); iapply (shared_levels m ρ K); iexact HS
    iexact Hat
  iintro ⟨HO, Hat, -, Hpay⟩
  ihave Hp := (Entails.of_eq (rest_bar m ρ c)) $$ Hpay
  imod (Rounds.cell_close ER (sched m ρ) (Set.mem_univ (K (c, .bar))) (fun h => h) (R := 0 + 1) (duties_later m ρ (kcell (c, .bar)))) $$ [Hat] with Hz
  · isplitr; · iapply (shared_inv m ρ K (c, .bar)); iexact HS
    iexact Hat
  iapply Hk $$ [Hz Hp]
  · isplitl [Hz]; · iexact Hz
    iexact Hp
  iexists _; iexact HO

/-! ## Signalling -/

/-- A signal hands the neighbour what its barrier is to bring, and pays one unit. -/
theorem step_signal (c : Dev nD) (k : Dir) (l : List Instr) (p : P F) (Q : PUnit → sProp 𝕄) :
    iprop(shared m ρ K ∗ (den m ρ c (.btok k) ∗ pay m ρ (nbr k c) k .bar) ∗ debt c (.signal k :: l))
      ⊢ iprop((debt c l -∗ Runs c p Q) -∗ Runs c (run c (.signal k) p) Q) := by
  unfold debt
  show iprop(shared m ρ K ∗ (dutyTok ER (kcell (nbr k c, .bar)) 0 k ∗ _) ∗ _) ⊢ _
  iintro ⟨#HS, ⟨Ht, Hp⟩, ⟨%W, HO⟩⟩ Hk
  iapply (Rounds.wp_signal 𝒱₀ ER (sched m ρ) (c : Thread nD τ) none (dst := (nbr k c : Thread nD τ)) (κ := K (nbr k c, .bar))
      (r := 0) (d := k) (W := W) (mem_duties_bar m ρ (nbr k c) k)
      (amount_eq m ρ (nbr k c) .bar 0 k) () (owed c l) rfl) $$ [HO Ht Hp]
  · isplitr; · iapply (shared_inv m ρ K (nbr k c, .bar)); iexact HS
    isplitl [HO]; · iexact HO
    isplitl [Ht]; · iexact Ht
    isplitl [Hp]; · iapply (Entails.of_eq (payload_eq m ρ (nbr k c) .bar 0 k).symm); iexact Hp
    iapply (shared_reached m ρ K (nbr k c, .bar)); iexact HS
  iintro HO
  iapply Hk
  iexists W; iexact HO

/-! ## Sending -/

/-- A transfer from any chunk to any chunk of the neighbour across k, paying the j-th departure and arrival cells. -/
theorem step_copy (c : Dev nD) (k : Dir) (j : Fin 11) (h : used c false k j = true) (l : List Instr)
    (vS vD : Memref sig .tc .vmem S256x1024 .bf16) (hN : vD.view.dmaCredit = N)
    (q : PosShare TreeShare) (fs : Buf (Elt F) (vS.view.loc (c : Thread nD τ))) (fd : Buf (Elt F) (vD.view.loc (nbr k c : Thread nD τ)))
    (hS : (vS.view.loc (c : Thread nD τ) ↦[vS.view.set]{q} fs : sProp 𝕄) ⊢ pay m ρ c .z (.dma false k j))
    (hD : (vD.view.loc (nbr k c : Thread nD τ) ↦[vD.view.set]{fullShare} (vD.view.write (Elt F) fd (vS.view.read (Elt F) fs) Finset.univ) : sProp 𝕄)
      ⊢ pay m ρ (nbr k c) .z (.dma true k j))
    {hsc : vD.view.ref.isScScratch = false} {hxS : vS.view.WordExact} {hxD : vD.view.WordExact}
    {ht : DmaTarget.Typed .vmem (.dma (sem true k j)) (.remote (Dev.tc (nbr k c) : Thread nD τ) vD (.dma (sem false k j)) hsc)}
    (p : P F) (Q : PUnit → sProp 𝕄) :
    iprop(shared m ρ K ∗ (den m ρ c (.rdy k j) ∗ (vD.view.loc (nbr k c : Thread nD τ) ↦[vD.view.set]{fullShare} fd)
          ∗ (vS.view.loc (c : Thread nD τ) ↦[vS.view.set]{q} fs)) ∗ debt c (.send k j :: l))
      ⊢ iprop((den m ρ c (.fly k j) -∗ debt c l -∗ Runs c p Q)
        -∗ Runs c (.op (.enqueueDma vS (.remote (Dev.tc (nbr k c) : Thread nD τ) vD (.dma (sem false k j)) hsc) (.dma (sem true k j)) hxS hxD ht) fun _ => p) Q) := by
  unfold debt
  show iprop(shared m ρ K ∗ ((atPos ER (kcell (c, .dma false k j)) 0 ∅ 0 ∗ dutyTok ER (kcell (c, .dma false k j)) 0 .z
      ∗ dutyTok ER (kcell (nbr k c, .dma true k j)) 0 .z) ∗ _) ∗ _) ⊢ _
  iintro ⟨#HS, ⟨⟨Hat, Ht1, Ht2⟩, HD, HP⟩, ⟨%W, HO⟩⟩ Hk
  iapply (Rounds.wp_send_pointsTo 𝒱₀ ER (sched m ρ) (c : Thread nD τ) none (κ₁ := K (c, .dma false k j)) (κ₂ := K (nbr k c, .dma true k j))
      (r₁ := 0) (r₂ := 0) (d₁ := .z) (d₂ := .z) (fd := fd) (fs := fs) (q := q) (W := W)
      (sS := .dma (sem false k j)) (sem := .dma (sem true k j))
      (mem_duties m ρ c false k j h) (mem_duties m ρ (nbr k c) true k j ((used_nbr c k j).trans h))
      () () N hN (amount_eq m ρ c (.dma false k j) 0 .z) (amount_eq m ρ (nbr k c) (.dma true k j) 0 .z) (owed c l) rfl
      (hS.trans (Entails.of_eq (payload_eq m ρ c (.dma false k j) 0 .z).symm))
      (hD.trans (Entails.of_eq (payload_eq m ρ (nbr k c) (.dma true k j) 0 .z).symm))) $$ [HO Ht1 Ht2 HD HP]
  · isplitr; · iapply (shared_inv m ρ K (c, .dma false k j)); iexact HS
    isplitr; · iapply (shared_inv m ρ K (nbr k c, .dma true k j)); iexact HS
    isplitl [HP]; · iexact HP
    isplitl [HD]; · iexact HD
    isplitl [HO]; · iexact HO
    isplitl [Ht1]; · iexact Ht1
    isplitr; · iapply (shared_reached m ρ K (c, .dma false k j)); iexact HS
    isplitl [Ht2]; · iexact Ht2
    iapply (shared_reached m ρ K (nbr k c, .dma true k j)); iexact HS
  iintro ⟨Hcr, HO⟩
  iapply Hk $$ [Hat Hcr]
  · unfold den
    isplitl [Hat]; · iexact Hat
    iexact Hcr
  iexists W; iexact HO

/-! ## Adding -/

/-- An addition leaves the sums of the chunk in the result. -/
theorem step_add (c : Dev nD) (j : Fin 11) (h : used c true .z j = true) (p : P F) (Q : PUnit → sProp 𝕄) :
    iprop(xP m ρ c (inChunk c .z j) ∗ cP c j (commF m ρ c) ∗ ∃ f, oP fullShare c (inChunk c .z j) f)
      ⊢ iprop(((xP m ρ c (inChunk c .z j) ∗ cP c j (commF m ρ c) ∗ oP fullShare c (inChunk c .z j) (outF m ρ c)) -∗ Runs c p Q)
        -∗ Runs c (run c (.add j) p) Q) := by
  unfold xP cP oP
  iintro ⟨Hx, Hc, ⟨%f, Ho⟩⟩ Hk
  iapply (wp_load_rect 𝒱₀ (c : Thread nD τ) none Set.univ (m := xM) (r := rO (inChunk c .z j)) subset_rfl) $$ Hx; iintro Hx
  iapply (wp_load_rect 𝒱₀ (c : Thread nD τ) none Set.univ (m := cM) (r := rC j) subset_rfl) $$ Hc; iintro Hc
  iapply (wp_load_rect 𝒱₀ (c : Thread nD τ) none Set.univ (m := oM) (r := rO (inChunk c .z j)) subset_rfl) $$ Ho; iintro Ho
  iapply (wp_store 𝒱₀ (c : Thread nD τ) none Set.univ (m := oM) (r := rO (inChunk c .z j)) (Mk := Finset.univ)
    (S := (oV (inChunk c .z j)).view.set) subset_rfl) $$ Ho; iintro Ho
  iapply Hk
  isplitl [Hx]; · iexact Hx
  isplitl [Hc]; · iexact Hc
  iapply (Entails.of_eq (pointsTo_congr fun i hi => add_leaves m ρ c j h f i hi)); iexact Ho

/-! ## Any instruction -/

/-- What the neighbour will send here is what it uses. -/
theorem lent (k : Dir) (c : Dev nD) : ∀ j ∈ upto (inCount k c), used (nbr k c) false k j = true := by
  revert k c; decide +kernel

/-- What a signal hands over is what the device lends the neighbour. -/
theorem lend (c : Dev nD) (k : Dir) :
    bigSepL ((upto (inCount k c)).map (raw c k)) (den m ρ c) ⊢ pay m ρ (nbr k c) k .bar := by
  rw [bigSepL_map]
  unfold pay outCount
  rw [nbr_nbr]
  refine bigSepL_mono fun j hj => ?_
  have e := in_eq_out (nbr k c) k j (lent k c j hj)
  rw [nbr_nbr] at e
  rw [← e]
  cases k <;> exact Entails.refl _

/-- What the barrier releases: the neighbours' landing chunks. -/
theorem lent_us (c : Dev nD) :
    iprop(semVal (kcell (c, .bar)) 0 ∗ pay m ρ c .z .bar ∗ pay m ρ c .x .bar ∗ pay m ρ c .y .bar) ⊢ bigSepL (give c .waitB) (den m ρ c) := by
  rw [show give c .waitB = .fin .bar :: (lands c .z ++ (lands c .x ++ lands c .y)) from rfl]
  unfold lands
  rw [bigSepL_cons', bigSepL_append, bigSepL_append, bigSepL_map, bigSepL_map, bigSepL_map]
  exact Entails.refl _

/-- An arrival along x or y: the chunk is in hand as its two halves. -/
theorem arrived (c : Dev nD) (k : Dir) (j : Fin 11) (hk : arr c k j = [.outL (inChunk c k j), .outR (inChunk c k j)])
    (hp : pay m ρ c .z (.dma true k j) = oP fullShare c (inChunk c k j) (outF m ρ c)) :
    iprop(semVal (kcell (c, .dma true k j)) 0 ∗ pay m ρ c .z (.dma true k j)) ⊢ bigSepL (give c (.waitR k j)) (den m ρ c) := by
  rw [hp, oP_halves, show give c (.waitR k j) = .fin (.dma true k j) :: arr c k j from rfl, hk]
  exact Entails.refl _

/-- The rule of every instruction. -/
theorem step (c : Dev nD) (i : Instr) (l : List Instr) (h : side c l i = true) (p : P F) (Q : PUnit → sProp 𝕄) :
    iprop(shared m ρ K ∗ bigSepL (need c i) (den m ρ c) ∗ debt c (i :: l))
      ⊢ iprop((bigSepL (give c i) (den m ρ c) -∗ debt c l -∗ Runs c p Q) -∗ Runs c (run c i p) Q) := by
  cases i with
  | signal k =>
    unfold need give
    rw [bigSepL_cons']
    iintro ⟨#HS, ⟨Ht, Hl⟩, HO⟩ Hk
    ihave Hp := (lend m ρ c k) $$ Hl
    iapply (step_signal m ρ K c k l p Q) $$ [Ht Hp HO]
    · isplitr; · iexact HS
      isplitl [Ht Hp]
      · isplitl [Ht]; · iexact Ht
        iexact Hp
      iexact HO
    iintro HO
    iapply Hk $$ [] HO
    iempintro
  | waitB =>
    show iprop(shared m ρ K ∗ den m ρ c .bwt ∗ debt c (.waitB :: l)) ⊢ _
    iintro ⟨#HS, Hb, HO⟩ Hk
    iapply (step_barrier m ρ K c l h p Q) $$ [Hb HO]
    · isplitr; · iexact HS
      isplitl [Hb]; · iexact Hb
      iexact HO
    iintro H HO
    ihave H' := (lent_us m ρ c) $$ H
    iapply Hk $$ H' HO
  | send k j =>
    have e := in_eq_out c k j h
    cases k with
    | z =>
      show iprop(shared m ρ K ∗ (den m ρ c (.rdy .z j) ∗ (∃ f, cP (nbr .z c) j f) ∗ xP m ρ c (outChunk c .z j)) ∗ debt c (.send .z j :: l)) ⊢ _
      unfold xP cP
      iintro ⟨#HS, ⟨Hr, ⟨%f, HD⟩, Hx⟩, HO⟩ Hk
      iapply (step_copy m ρ K c .z j h l (xV (outChunk c .z j)) (cV j) rfl fullShare (xstg m ρ c) f (Entails.refl _)
        (Entails.of_eq (pointsTo_congr fun i hi => z_leaves m ρ c j h f i hi)) p Q) $$ [Hr HD Hx HO]
      · isplitr; · iexact HS
        isplitl [Hr HD Hx]
        · isplitl [Hr]; · iexact Hr
          isplitl [HD]; · iexact HD
          iexact Hx
        iexact HO
      iexact Hk
    | x =>
      show iprop(shared m ρ K ∗ (den m ρ c (.rdy .x j) ∗ (∃ f, oP fullShare (nbr .x c) (outChunk c .x j) f) ∗ oP fullShare.left c (outChunk c .x j) (outF m ρ c)) ∗ debt c (.send .x j :: l)) ⊢ _
      unfold oP
      iintro ⟨#HS, ⟨Hr, ⟨%f, HD⟩, Hx⟩, HO⟩ Hk
      iapply (step_copy m ρ K c .x j h l (oV (outChunk c .x j)) (oV (outChunk c .x j)) rfl fullShare.left (outF m ρ c) f (Entails.refl _)
        ((Entails.of_eq (pointsTo_congr fun i hi => xy_leaves m ρ c .x (by decide) j h f i hi)).trans
          (show oP fullShare (nbr .x c) (outChunk c .x j) (outF m ρ (nbr .x c)) ⊢ oP fullShare (nbr .x c) (inChunk (nbr .x c) .x j) (outF m ρ (nbr .x c)) from by
            rw [e])) p Q) $$ [Hr HD Hx HO]
      · isplitr; · iexact HS
        isplitl [Hr HD Hx]
        · isplitl [Hr]; · iexact Hr
          isplitl [HD]; · iexact HD
          iexact Hx
        iexact HO
      iexact Hk
    | y =>
      show iprop(shared m ρ K ∗ (den m ρ c (.rdy .y j) ∗ (∃ f, oP fullShare (nbr .y c) (outChunk c .y j) f) ∗ oP fullShare.right c (outChunk c .y j) (outF m ρ c)) ∗ debt c (.send .y j :: l)) ⊢ _
      unfold oP
      iintro ⟨#HS, ⟨Hr, ⟨%f, HD⟩, Hx⟩, HO⟩ Hk
      iapply (step_copy m ρ K c .y j h l (oV (outChunk c .y j)) (oV (outChunk c .y j)) rfl fullShare.right (outF m ρ c) f (Entails.refl _)
        ((Entails.of_eq (pointsTo_congr fun i hi => xy_leaves m ρ c .y (by decide) j h f i hi)).trans
          (show oP fullShare (nbr .y c) (outChunk c .y j) (outF m ρ (nbr .y c)) ⊢ oP fullShare (nbr .y c) (inChunk (nbr .y c) .y j) (outF m ρ (nbr .y c)) from by
            rw [e])) p Q) $$ [Hr HD Hx HO]
      · isplitr; · iexact HS
        isplitl [Hr HD Hx]
        · isplitl [Hr]; · iexact Hr
          isplitl [HD]; · iexact HD
          iexact Hx
        iexact HO
      iexact Hk
  | waitS k j =>
    unfold side at h
    rw [Bool.and_eq_true] at h
    cases k with
    | z => exact step_wait m ρ K c false .z j h.1 l h.2 _ (fun Kt => (wpE_waitDma2_eq 𝒱₀ (c : Thread nD τ) none Set.univ Kt).trans (by rw [credit_x])) p Q
    | x => exact step_wait m ρ K c false .x j h.1 l h.2 _ (fun Kt => (wpE_waitDma2_eq 𝒱₀ (c : Thread nD τ) none Set.univ Kt).trans (by rw [credit_o])) p Q
    | y => exact step_wait m ρ K c false .y j h.1 l h.2 _ (fun Kt => (wpE_waitDma2_eq 𝒱₀ (c : Thread nD τ) none Set.univ Kt).trans (by rw [credit_o])) p Q
  | waitR k j =>
    unfold side at h
    rw [Bool.and_eq_true] at h
    cases k with
    | z => exact step_wait m ρ K c true .z j h.1 l h.2 _ (fun Kt => (wpE_waitDma2_eq 𝒱₀ (c : Thread nD τ) none Set.univ Kt).trans (by rw [credit_c])) p Q
    | x =>
      exact (step_wait m ρ K c true .x j h.1 l h.2 _ (fun Kt => (wpE_waitDma2_eq 𝒱₀ (c : Thread nD τ) none Set.univ Kt).trans (by rw [credit_o])) p Q).trans
        (wand_mono_left (wand_mono_left (arrived m ρ c .x j rfl rfl)))
    | y =>
      exact (step_wait m ρ K c true .y j h.1 l h.2 _ (fun Kt => (wpE_waitDma2_eq 𝒱₀ (c : Thread nD τ) none Set.univ Kt).trans (by rw [credit_o])) p Q).trans
        (wand_mono_left (wand_mono_left (arrived m ρ c .y j rfl rfl)))
  | add j =>
    show iprop(shared m ρ K ∗ (xP m ρ c (inChunk c .z j) ∗ cP c j (commF m ρ c) ∗ ∃ f, oP fullShare c (inChunk c .z j) f) ∗ debt c l) ⊢ _
    iintro ⟨-, ⟨Hx, Hc, Ho⟩, HO⟩ Hk
    iapply (step_add m ρ c j h p Q) $$ [Hx Hc Ho]
    · isplitl [Hx]; · iexact Hx
      isplitl [Hc]; · iexact Hc
      iexact Ho
    iintro ⟨Hx, Hc, Ho⟩
    ihave Ho' := (Entails.of_eq (oP_halves c (inChunk c .z j) (outF m ρ c))) $$ Ho
    icases Ho' with ⟨Hl, Hr⟩
    iapply Hk $$ [Hx Hc Hl Hr] HO
    iapply (show iprop(xP m ρ c (inChunk c .z j) ∗ cP c j (commF m ρ c) ∗ oP fullShare.left c (inChunk c .z j) (outF m ρ c)
      ∗ oP fullShare.right c (inChunk c .z j) (outF m ρ c)) ⊢ bigSepL (give c (.add j)) (den m ρ c) from Entails.refl _)
    isplitl [Hx]; · iexact Hx
    isplitl [Hc]; · iexact Hc
    isplitl [Hl]; · iexact Hl
    iexact Hr

end Cert.KernelIdeal.Sum

end
-- ==== Proof.KernelIdeal.Pool.lean ====
/-
  A whole script: from the tokens of the start and the debt of the script, running it leaves the tokens of the end and no
  debt. Induction over the run on tokens (`check`), one instruction's rule a step.
-/
module

public import proofs.«01_k».proof.Proof.KernelIdeal.Steps

@[expose] public section

noncomputable section

namespace Cert.KernelIdeal.Sum

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Taking tokens out of a list -/

/-- Taking a token out of a list takes what it stands for out of the holdings. -/
theorem take1_den (c : Dev nD) (a : Res) : ∀ (S S' : List Res), take1 a S = some S' →
    bigSepL S (den m ρ c) ⊢ iprop(den m ρ c a ∗ bigSepL S' (den m ρ c))
  | [], S', h => by cases h
  | b :: S, S', h => by
    unfold take1 at h
    by_cases e : a = b
    · rw [if_pos e] at h
      cases h
      rw [e, bigSepL_cons']
    · rw [if_neg e] at h
      cases h1 : take1 a S with
      | none => rw [h1] at h; cases h
      | some S₁ =>
        rw [h1] at h
        cases h
        rw [bigSepL_cons', bigSepL_cons']
        iintro ⟨Hb, HS⟩
        ihave H := (take1_den c a S S₁ h1) $$ HS
        icases H with ⟨Ha, HS⟩
        isplitl [Ha]; · iexact Ha
        isplitl [Hb]; · iexact Hb
        iexact HS

/-- So does taking several. -/
theorem takeAll_den (c : Dev nD) : ∀ (A S S' : List Res), takeAll A S = some S' →
    bigSepL S (den m ρ c) ⊢ iprop(bigSepL A (den m ρ c) ∗ bigSepL S' (den m ρ c))
  | [], S, S', h => by
    cases h
    iintro H
    isplitr; · iempintro
    iexact H
  | a :: A, S, S', h => by
    unfold takeAll at h
    cases h1 : take1 a S with
    | none => rw [h1] at h; cases h
    | some S₁ =>
      rw [h1] at h
      rw [bigSepL_cons']
      iintro HS
      ihave H := (take1_den m ρ c a S S₁ h1) $$ HS
      icases H with ⟨Ha, HS⟩
      ihave H := (takeAll_den c A S₁ S' h) $$ HS
      icases H with ⟨HA, HS⟩
      isplitl [Ha HA]
      · isplitl [Ha]; · iexact Ha
        iexact HA
      iexact HS

/-! ## Running a script -/

variable (K : Dev nD × Cell → ℕ)

/-- If the run on tokens goes through from S to E, running the script takes the holdings of S and the script's debt to those of E and none. -/
theorem run_script (c : Dev nD) (E : List Res) (Q : PUnit → sProp 𝕄) : ∀ (l : List Instr) (S : List Res), check c E l S = true →
    iprop(shared m ρ K ∗ bigSepL S (den m ρ c) ∗ debt c l)
      ⊢ iprop((bigSepL E (den m ρ c) -∗ debt c [] -∗ Q ⟨⟩) -∗ Runs c (prog c l) Q)
  | [], S, h => by
    have h : (takeAll E S).isSome = true := h
    obtain ⟨S', h⟩ := Option.isSome_iff_exists.mp h
    show _ ⊢ iprop(_ -∗ Runs c (.ret ⟨⟩) Q)
    unfold Runs
    rw [wp_ret]
    iintro ⟨-, HS, HO⟩ Hk
    ihave H := (takeAll_den m ρ c E S S' h) $$ HS
    icases H with ⟨HE, -⟩
    imodintro
    iapply Hk $$ HE HO
  | i :: l, S, h => by
    have h : (side c l i && match takeAll (need c i) S with
      | none => false
      | some S' => check c E l (give c i ++ S')) = true := h
    rw [Bool.and_eq_true] at h
    cases h1 : takeAll (need c i) S with
    | none => rw [h1] at h; exact absurd h.2 Bool.false_ne_true
    | some S' =>
      rw [h1] at h
      show _ ⊢ iprop(_ -∗ Runs c (run c i (prog c l)) Q)
      iintro ⟨#HS, HP, HO⟩ Hk
      ihave H := (takeAll_den m ρ c (need c i) S S' h1) $$ HP
      icases H with ⟨HA, HR⟩
      iapply (step m ρ K c i l h.1 (prog c l) Q) $$ [HA HO]
      · isplitr; · iexact HS
        isplitl [HA]; · iexact HA
        iexact HO
      iintro HG HO
      iapply (run_script c E Q l (give c i ++ S') h.2) $$ [HG HR HO]
      · rw [bigSepL_append]
        isplitr; · iexact HS
        isplitl [HG HR]
        · isplitl [HG]; · iexact HG
          iexact HR
        iexact HO
      iexact Hk

end Cert.KernelIdeal.Sum

end
-- ==== Proof.KernelIdeal.Body.lean ====
/-
  What a device starts with and ends with, buffer by buffer and semaphore by semaphore, against the tokens of the start and
  the end; and the body's rule over it: from its share of the launch and its argument block, the result buffer holds `outF` and
  every semaphore is back at zero.
-/
module

public import proofs.«01_k».proof.Proof.KernelIdeal.Pool
public import Idealize.ShloMosaic.Lib.Ring

@[expose] public section

noncomputable section

namespace Cert.KernelIdeal.Sum

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Listings -/

/-- The semaphores of the six arrays, and those of one array of departures or arrivals per axis. -/
abbrev Arr : Type := Bool × Dir × Fin 11
/-- An axis and an index: a semaphore of either of the axis's two arrays. -/
abbrev Pos : Type := Dir × Fin 11
/-- The cell of a semaphore of the six arrays. -/
abbrev ofArr (a : Arr) : Cell := .dma a.1 a.2.1 a.2.2

/-- All axes and indices, listed. -/
def poss : List Pos := dirs.flatMap fun k => (List.finRange 11).map fun j => (k, j)
/-- The list leaves none out. -/
theorem poss_all : (Finset.univ : Finset Pos) = poss.toFinset := by decide +kernel
/-- The list repeats none. -/
theorem poss_nodup : poss.Nodup := by decide +kernel

/-- A family over the axes, as a list. -/
theorem over_dirs (Φ : Dir → sProp 𝕄) : bigSep Finset.univ Φ = bigSepL dirs Φ := bigSep_univ_eq_bigSepL dirs (by decide) (by decide) Φ
/-- A family over axes and indices, as a list. -/
theorem over_poss (Φ : Pos → sProp 𝕄) : bigSep Finset.univ Φ = bigSepL poss Φ := bigSep_univ_eq_bigSepL poss poss_all poss_nodup Φ
/-- A family over 0 … n-1, as a list. -/
theorem over_fin {n : ℕ} (Φ : Fin n → sProp 𝕄) : bigSep Finset.univ Φ = bigSepL (List.finRange n) Φ :=
  bigSep_univ_eq_bigSepL (List.finRange n) (by ext i; simp) (List.nodup_finRange n) Φ
/-- A family over the arrays' semaphores: the departures' and the arrivals'. -/
theorem over_arr (Φ : Arr → sProp 𝕄) :
    bigSep Finset.univ Φ = iprop((bigSep Finset.univ fun b : Pos => Φ (false, b)) ∗ bigSep Finset.univ fun b : Pos => Φ (true, b)) := by
  rw [bigSep_univ_prod, bigSep_univ_eq_bigSepL [false, true] (by decide) (by decide)]
  rfl
/-- A family over a device's cells: the barrier's and the arrays'. -/
theorem over_cells (Φ : Cell → sProp 𝕄) : bigSep Finset.univ Φ = iprop(Φ .bar ∗ bigSep Finset.univ fun a : Arr => Φ (ofArr a)) := by
  show bigSep (insert Cell.bar ((Finset.univ : Finset Arr).image ofArr)) Φ = _
  have hi : Function.Injective ofArr := by
    rintro ⟨r, k, j⟩ ⟨r', k', j'⟩ h
    cases h
    rfl
  rw [bigSep_insert (by rw [Finset.mem_image]; rintro ⟨a, -, h⟩; cases h),
    show (Finset.univ : Finset Arr).image ofArr = Finset.univ.map ⟨ofArr, hi⟩ from
      Finset.ext fun i => by rw [Finset.mem_image, Finset.mem_map]; rfl, bigSep_map]
  rfl
/-- A family over a sum of two index sets: one over each. -/
theorem over_sum {I J : Type} [Fintype I] [Fintype J] (Φ : I ⊕ J → sProp 𝕄) :
    bigSep Finset.univ Φ = iprop((bigSep Finset.univ fun i => Φ (.inl i)) ∗ bigSep Finset.univ fun j => Φ (.inr j)) := bigSep_univ_sum Φ

/-! ## The buffers, whole and by chunks -/

/-- The entries of a chunk of the argument are those of its rectangle. -/
theorem set_xV (g : Fin 32) : (xV g).view.set = (rO g).set := Rect.map_emb_univ (rO g)
/-- So are those of a chunk of the result. -/
theorem set_oV (g : Fin 32) : (oV g).view.set = (rO g).set := Rect.map_emb_univ (rO g)
/-- So are those of a chunk of the landing buffer. -/
theorem set_cV (j : Fin 11) : (cV j).view.set = (rC j).set := Rect.map_emb_univ (rC j)

/-- The staged argument is its 32 chunks. -/
theorem x_whole (c : Dev nD) :
    (((c : Thread nD τ).loc cc0_stg0_0 ↦{fullShare} xstg m ρ c : sProp 𝕄)) = bigSepL ((List.finRange 32).map .xch) (den m ρ c) := by
  rw [bigSepL_map, ← over_fin, Ring.pointsTo_blocks (fun g : Fin 32 => (rO g).set) rO_disjoint rO_cover]
  refine bigSep_congr fun g _ => ?_
  show _ = xP m ρ c g
  unfold xP
  rw [set_xV]

/-- The result buffer, at any contents, gives its 32 chunks. -/
theorem out_split (c : Dev nD) (f : Buf (Elt F) ((c : Thread nD τ).loc cc0_stg1_0)) :
    ((c : Thread nD τ).loc cc0_stg1_0 ↦{fullShare} f : sProp 𝕄) ⊢ bigSepL ((List.finRange 32).map .outRaw) (den m ρ c) := by
  rw [bigSepL_map, ← over_fin, Ring.pointsTo_blocks (fun g : Fin 32 => (rO g).set) rO_disjoint rO_cover]
  refine bigSep_mono fun g _ => ?_
  show _ ⊢ iprop(∃ f, oP fullShare c g f)
  unfold oP
  rw [set_oV]
  iintro H
  iexists f
  iexact H

/-- Both halves of all 32 finished chunks make up the finished result. -/
theorem out_join (c : Dev nD) :
    iprop(bigSepL ((List.finRange 32).map .outL) (den m ρ c) ∗ bigSepL ((List.finRange 32).map .outR) (den m ρ c))
      ⊢ ((c : Thread nD τ).loc cc0_stg1_0 ↦{fullShare} outF m ρ c : sProp 𝕄) := by
  rw [bigSepL_map, bigSepL_map, ← over_fin, ← over_fin, Ring.pointsTo_blocks (fun g : Fin 32 => (rO g).set) rO_disjoint rO_cover]
  refine (Entails.of_eq (bigSep_sep' Finset.univ _ _).symm).trans (bigSep_mono fun g _ => ?_)
  show iprop(oP fullShare.left c g (outF m ρ c) ∗ oP fullShare.right c g (outF m ρ c)) ⊢ _
  rw [← oP_halves]
  unfold oP
  rw [set_oV]

/-- The landing buffer gives its 11 chunks. -/
theorem comm_split (c : Dev nD) :
    iprop(∃ f : Buf (Elt F) ((c : Thread nD τ).loc cc0_scratch0), (c : Thread nD τ).loc cc0_scratch0 ↦{fullShare} f)
      ⊢ bigSepL ((List.finRange 11).map .commRaw) (den m ρ c) := by
  rw [bigSepL_map, ← over_fin]
  iintro ⟨%f, H⟩
  ihave H' := (Entails.of_eq (Ring.pointsTo_blocks (fun j : Fin 11 => (rC j).set) rC_disjoint rC_cover f)) $$ H
  iapply (show (bigSep Finset.univ fun j : Fin 11 => ((c : Thread nD τ).loc cc0_scratch0 ↦[(rC j).set]{fullShare} f : sProp 𝕄))
    ⊢ bigSep Finset.univ fun j : Fin 11 => den m ρ c (.commRaw j) from bigSep_mono fun j _ => by
      show _ ⊢ iprop(∃ f, cP c j f)
      unfold cP
      rw [set_cV]
      iintro H
      iexists f
      iexact H)
  iexact H'

/-- Its 11 chunks, landed in or not, give the landing buffer back. -/
theorem comm_join (c : Dev nD) :
    bigSepL ((List.finRange 11).map (final1 c)) (den m ρ c)
      ⊢ iprop(∃ f : Buf (Elt F) ((c : Thread nD τ).loc cc0_scratch0), (c : Thread nD τ).loc cc0_scratch0 ↦{fullShare} f) := by
  rw [bigSepL_map, ← over_fin]
  refine BI.Entails.trans (bigSep_mono fun j _ => ?_)
    (Ring.pointsTo_blocks_join_exists (fun j : Fin 11 => (rC j).set) rC_disjoint rC_cover (commF m ρ c))
  unfold final1
  split
  · show cP c j (commF m ρ c) ⊢ _
    unfold cP
    rw [set_cV]
    iintro H
    iexists commF m ρ c
    iexact H
  · show iprop(∃ f, cP c j f) ⊢ _
    unfold cP
    rw [set_cV]

/-! ## The semaphores -/

/-- What device c is to be paid at a cell. -/
def due (c : Dev nD) : Cell → ℕ
  | .bar => 3
  | .dma r k j => if (r && used c r k j) = true then N else 0

/-- The payments device c makes: one at each neighbour's barrier; for each departure, at its own cell and where it arrives. -/
def tok (c : Dev nD) : Dir ⊕ Arr → GSem nD τ sig × ℕ × Dir
  | .inl k => (kcell (nbr k c, .bar), 0, k)
  | .inr (false, k, j) => (kcell (c, .dma false k j), 0, .z)
  | .inr (true, k, j) => (kcell (nbr k c, .dma true k j), 0, .z)

/-- Device c's place at the start of the round of each of its cells. -/
def seats (c : Dev nD) : sProp 𝕄 := bigSep Finset.univ fun i : Cell => atPos ER (kcell (c, i)) 0 ∅ 0
/-- The right to make each payment device c makes. -/
def toks (c : Dev nD) : sProp 𝕄 := bigSep Finset.univ fun x : Dir ⊕ Arr => dutyTok ER (tok c x).1 (tok c x).2.1 (tok c x).2.2
/-- What device c may expect at each of its cells. -/
def creds (c : Dev nD) : sProp 𝕄 := bigSep Finset.univ fun i : Cell => cred (tallyAt (kcell (c, i)) () (due c i))

variable (K : Dev nD × Cell → ℕ)

/-- A cell no transfer uses closes at once. -/
theorem close_unused (c : Dev nD) (r : Bool) (k : Dir) (j : Fin 11) (h : used c r k j ≠ true) :
    iprop(shared m ρ K ∗ atPos ER (kcell (c, .dma r k j)) 0 ∅ 0) ⊢ |={Set.univ}=> den m ρ c (.fin (.dma r k j)) := by
  have hd : ∀ n, 0 ≤ n → (sched (F := F) m ρ).duties (kcell (c, .dma r k j)) n = ∅ := fun n _ => by
    cases n with
    | zero => rw [duties_eq, dues_unused h]
    | succ n => exact duties_later m ρ _ (n + 1) (Nat.succ_pos n)
  iintro ⟨#HS, Hat⟩
  iapply (Rounds.cell_close ER (sched m ρ) (Set.mem_univ (K (c, .dma r k j))) (fun h => h) hd)
  isplitr; · iapply (shared_inv m ρ K (c, .dma r k j)); iexact HS
  iexact Hat

/-- A departure's semaphore is ready at the start if it is used, else done with. -/
theorem start_out (c : Dev nD) (k : Dir) (j : Fin 11) :
    iprop(shared m ρ K ∗ (atPos ER (kcell (c, .dma false k j)) 0 ∅ 0 ∗ dutyTok ER (kcell (c, .dma false k j)) 0 .z
        ∗ dutyTok ER (kcell (nbr k c, .dma true k j)) 0 .z))
      ⊢ |={Set.univ}=> den m ρ c (start1 c false k j) := by
  unfold start1
  by_cases h : used c false k j = true
  · rw [if_pos h]
    show _ ⊢ iprop(|={Set.univ}=> den m ρ c (.rdy k j))
    unfold den
    iintro ⟨-, H⟩
    imodintro
    iexact H
  · rw [if_neg h]
    iintro ⟨#HS, Hat, -⟩
    iapply (close_unused m ρ K c false k j h)
    isplitr; · iexact HS
    iexact Hat

/-- An arrival's semaphore likewise. -/
theorem start_in (c : Dev nD) (k : Dir) (j : Fin 11) :
    iprop(shared m ρ K ∗ (atPos ER (kcell (c, .dma true k j)) 0 ∅ 0 ∗ cred (tallyAt (kcell (c, .dma true k j)) () (due c (.dma true k j)))))
      ⊢ |={Set.univ}=> den m ρ c (start1 c true k j) := by
  unfold start1
  by_cases h : used c true k j = true
  · have e : due c (.dma true k j) = N := if_pos h
    rw [if_pos h, e]
    show _ ⊢ iprop(|={Set.univ}=> den m ρ c (.wt k j))
    unfold den
    iintro ⟨-, H⟩
    imodintro
    iexact H
  · rw [if_neg h]
    iintro ⟨#HS, Hat, -⟩
    iapply (close_unused m ρ K c true k j h)
    isplitr; · iexact HS
    iexact Hat

/-- A family of updates that share a persistent fact. -/
theorem update_each {I : Type} [DecidableEq I] (S : Finset I) (R : sProp 𝕄) [BI.Persistent R] (Φ Ψ : I → sProp 𝕄)
    (h : ∀ i, iprop(R ∗ Φ i) ⊢ |={Set.univ}=> Ψ i) : iprop(R ∗ bigSep S Φ) ⊢ |={Set.univ}=> bigSep S Ψ := by
  refine (sep_mono_left (BI.bigSep_of_persistent S R)).trans ?_
  rw [← bigSep_sep']
  exact (bigSep_mono fun i _ => h i).trans (bigSep_fupd _ _)

/-- The tokens of the semaphores at the start. -/
def semTokens (c : Dev nD) : List Res :=
  (dirs.map .btok ++ [.bwt]) ++ (poss.map (fun b => start1 c false b.1 b.2) ++ poss.map fun b => start1 c true b.1 b.2)

/-- The tokens of the start: those of the semaphores, then the chunks of the three buffers. -/
theorem start_eq (c : Dev nD) :
    start c = semTokens c ++ ((List.finRange 32).map .xch ++ ((List.finRange 32).map .outRaw ++ (List.finRange 11).map .commRaw)) := by
  have e : ([false, true].flatMap fun r => dirs.flatMap fun k => (List.finRange 11).map (start1 c r k))
      = poss.map (fun b => start1 c false b.1 b.2) ++ poss.map fun b => start1 c true b.1 b.2 := by
    unfold poss
    rw [List.map_flatMap, List.map_flatMap]
    simp only [List.map_map, Function.comp_def, List.flatMap_cons, List.flatMap_nil, List.append_nil]
  unfold start semTokens
  rw [e]
  simp only [List.append_assoc]

/-- The tokens of the end: every semaphore done with, then the chunks of the three buffers. -/
theorem final_eq (c : Dev nD) :
    final c = (.fin .bar :: (poss.map (fun b => Res.fin (.dma false b.1 b.2)) ++ poss.map fun b => Res.fin (.dma true b.1 b.2)))
      ++ ((List.finRange 32).map .xch ++ ((List.finRange 32).map .outL ++ ((List.finRange 32).map .outR ++ (List.finRange 11).map (final1 c)))) := by
  have e : ([false, true].flatMap fun r => dirs.flatMap fun k => (List.finRange 11).map fun j => Res.fin (.dma r k j))
      = poss.map (fun b => Res.fin (.dma false b.1 b.2)) ++ poss.map fun b => Res.fin (.dma true b.1 b.2) := by
    unfold poss
    rw [List.map_flatMap, List.map_flatMap]
    simp only [List.map_map, Function.comp_def, List.flatMap_cons, List.flatMap_nil, List.append_nil]
  unfold final
  rw [e]
  simp only [List.append_assoc, List.cons_append, List.nil_append]

/-- A device's share of the launch gives the semaphores' tokens of the start. -/
theorem sems_start (c : Dev nD) :
    iprop(shared m ρ K ∗ seats c ∗ toks c ∗ creds c) ⊢ |={Set.univ}=> bigSepL (semTokens c) (den m ρ c) := by
  unfold seats toks creds semTokens
  rw [over_cells, over_cells, over_arr, over_arr, over_sum, over_arr, over_dirs]
  rw [bigSepL_append, bigSepL_append, bigSepL_append, bigSepL_map, bigSepL_map, bigSepL_map, ← over_poss, ← over_poss]
  iintro ⟨#HS, ⟨HaB, HaF, HaT⟩, ⟨HtB, HtF, HtT⟩, ⟨HcB, -, HcT⟩⟩
  imod (update_each Finset.univ (shared m ρ K)
    (fun b : Pos => iprop(atPos ER (kcell (c, .dma false b.1 b.2)) 0 ∅ 0 ∗ dutyTok ER (kcell (c, .dma false b.1 b.2)) 0 .z
        ∗ dutyTok ER (kcell (nbr b.1 c, .dma true b.1 b.2)) 0 .z))
    (fun b : Pos => den m ρ c (start1 c false b.1 b.2)) (fun b => start_out m ρ K c b.1 b.2)) $$ [HaF HtF HtT] with HF
  · isplitr; · iexact HS
    rw [bigSep_sep', bigSep_sep']
    isplitl [HaF]; · iexact HaF
    isplitl [HtF]; · iexact HtF
    iexact HtT
  imod (update_each Finset.univ (shared m ρ K)
    (fun b : Pos => iprop(atPos ER (kcell (c, .dma true b.1 b.2)) 0 ∅ 0
        ∗ cred (tallyAt (kcell (c, .dma true b.1 b.2)) () (due c (.dma true b.1 b.2)))))
    (fun b : Pos => den m ρ c (start1 c true b.1 b.2)) (fun b => start_in m ρ K c b.1 b.2)) $$ [HaT HcT] with HT
  · isplitr; · iexact HS
    rw [bigSep_sep']
    isplitl [HaT]; · iexact HaT
    iexact HcT
  imodintro
  isplitl [HaB HtB HcB]
  · isplitl [HtB]; · iexact HtB
    iapply (show iprop(atPos ER (kcell (c, .bar)) 0 ∅ 0 ∗ cred (tallyAt (kcell (c, .bar)) () 3)) ⊢ bigSepL [.bwt] (den m ρ c) from Entails.refl _)
    isplitl [HaB]; · iexact HaB
    iexact HcB
  isplitl [HF]; · iexact HF
  iexact HT

/-- Every cell of device c at zero. -/
def zeros (c : Dev nD) : sProp 𝕄 := bigSep Finset.univ fun i : Cell => semVal (kcell (c, i)) 0

/-- The semaphores' tokens of the end say that every cell is at zero. -/
theorem sems_end (c : Dev nD) :
    bigSepL (.fin .bar :: (poss.map (fun b => Res.fin (.dma false b.1 b.2)) ++ poss.map fun b => Res.fin (.dma true b.1 b.2))) (den m ρ c)
      ⊢ zeros c := by
  unfold zeros
  rw [over_cells, over_arr, bigSepL_cons', bigSepL_append, bigSepL_map, bigSepL_map, ← over_poss, ← over_poss]
  exact Entails.refl _

/-! ## The body -/

/-- Device c's share of the launch. -/
def begun (c : Dev nD) : sProp 𝕄 := iprop((∃ K, shared m ρ K ∗ seats c ∗ toks c) ∗ creds c)

/-- The landing buffer, at any contents. -/
def landing (c : Dev nD) : sProp 𝕄 :=
  iprop(∃ f : Buf (Elt F) ((c : Thread nD τ).loc cc0_scratch0), (c : Thread nD τ).loc cc0_scratch0 ↦{fullShare} f)

/-- From its share of the launch, its debt, its staged argument and the other two buffers at any contents, the body of device c leaves every cell
    at zero, nothing owed, the argument as it was and the result at `outF c`. -/
theorem body_rule (c : Dev nD) (f : Buf (Elt F) ((c : Thread nD τ).loc cc0_stg1_0)) (Q : PUnit → sProp 𝕄) :
    iprop(begun m ρ c ∗ debt c (script c) ∗ landing c ∗ ((c : Thread nD τ).loc cc0_stg0_0 ↦{fullShare} xstg m ρ c)
        ∗ ((c : Thread nD τ).loc cc0_stg1_0 ↦{fullShare} f))
      ⊢ iprop(((zeros c ∗ debt c [] ∗ landing c ∗ ((c : Thread nD τ).loc cc0_stg0_0 ↦{fullShare} xstg m ρ c)
          ∗ ((c : Thread nD τ).loc cc0_stg1_0 ↦{fullShare} outF m ρ c)) -∗ Q ⟨⟩) -∗ Runs c body Q) := by
  rw [body_eq]
  unfold Runs
  rw [wp_deviceId]
  unfold begun landing
  iintro ⟨⟨⟨%K, #HS, Hse, Hto⟩, Hcr⟩, HO, Hl, Hx, Ho⟩ Hk
  imod (sems_start m ρ K c) $$ [Hse Hto Hcr] with HT
  · isplitr; · iexact HS
    isplitl [Hse]; · iexact Hse
    isplitl [Hto]; · iexact Hto
    iexact Hcr
  ihave Hx := (Entails.of_eq (x_whole m ρ c)) $$ Hx
  ihave Ho := (out_split m ρ c f) $$ Ho
  ihave Hl := (comm_split m ρ c) $$ Hl
  iapply (run_script m ρ K c (final c) Q (script c) (start c) (plan_ok c)) $$ [HT Hx Ho Hl HO]
  · rw [start_eq, bigSepL_append, bigSepL_append, bigSepL_append]
    isplitr; · iexact HS
    isplitl [HT Hx Ho Hl]
    · isplitl [HT]; · iexact HT
      isplitl [Hx]; · iexact Hx
      isplitl [Ho]; · iexact Ho
      iexact Hl
    iexact HO
  rw [final_eq, bigSepL_append, bigSepL_append, bigSepL_append, bigSepL_append]
  iintro ⟨Hz, Hx, HoL, HoR, Hl⟩ HO
  iapply Hk
  isplitl [Hz]; · iapply (sems_end m ρ c); iexact Hz
  isplitl [HO]; · iexact HO
  isplitl [Hl]; · iapply (comm_join m ρ c); iexact Hl
  isplitl [Hx]; · iapply (Entails.of_eq (x_whole m ρ c).symm); iexact Hx
  iapply (out_join m ρ c)
  isplitl [HoL]; · iexact HoL
  iexact HoR

end Cert.KernelIdeal.Sum

end
-- ==== Proof.KernelIdeal.Credit.lean ====
/-
  What each cell is owed at launch, over all devices, is what its owner waits for there; and a device may wait for its staging
  copies while it owes its whole script.
-/
module

public import proofs.«01_k».proof.Proof.KernelIdeal.Body

@[expose] public section

noncomputable section

namespace Cert.KernelIdeal.Sum

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The number of payments of l at a cell. -/
def hits (d : Dev nD) (l : List Instr) (p : Dev nD × Cell) : ℕ := l.countP fun i => decide (pays d i = some p)

/-- A script owes a cell as many payments as it makes there. -/
theorem owed_at (d : Dev nD) (p : Dev nD × Cell) : ∀ l, owed d l (kcell p) () = hits d l p * amt p.2
  | [] => by
    unfold hits
    rw [List.countP_nil, Nat.zero_mul]
    rfl
  | i :: l => by
    have ih := owed_at d p l
    unfold hits at ih ⊢
    rw [List.countP_cons]
    unfold owed
    cases h : pays d i with
    | none =>
      rw [if_neg (by rw [decide_eq_true_eq]; exact fun h' => by cases h'), Nat.add_zero]
      exact ih
    | some q =>
      show (owed d l + tallyAt (kcell q) () (amt q.2)) (kcell p) () = _
      rw [Pi.add_apply, Finsupp.add_apply, tallyAt_apply, ih, Nat.add_mul]
      congr 1
      by_cases e : p = q
      · subst e
        rw [if_pos ⟨rfl, rfl⟩, if_pos (decide_eq_true rfl), Nat.one_mul]
      · rw [if_neg fun h' => e (kcell_inj h'.1), if_neg (by rw [decide_eq_true_eq]; exact fun h' => e (Option.some.inj h').symm), Nat.zero_mul]

/-- Each barrier is signalled three times. -/
theorem hits_bar (c : Dev nD) : ∑ d : Dev nD, hits d (script d) (c, .bar) = 3 := by revert c; decide +kernel
/-- An arrival is paid once by the neighbour if it is used, else never. -/
theorem hits_nbr (c : Dev nD) (k : Dir) (j : Fin 11) :
    hits (nbr k c) (script (nbr k c)) (c, .dma true k j) = if used c true k j = true then 1 else 0 := by
  revert c k j; decide +kernel
/-- No other device pays it. -/
theorem hits_other (d c : Dev nD) (l : List Instr) (k : Dir) (j : Fin 11) (h : d ≠ nbr k c) : hits d l (c, .dma true k j) = 0 := by
  unfold hits
  rw [List.countP_eq_zero]
  intro i _
  rw [decide_eq_true_eq]
  intro e
  cases i with
  | signal k' => cases e
  | send k' j' =>
    have e := Option.some.inj e
    have h1 : nbr k' d = c := congrArg Prod.fst e
    have h2 := congrArg Prod.snd e
    cases h2
    exact h (by rw [← h1, nbr_nbr])
  | _ => cases e
/-- No device owes a departure's semaphore at launch. -/
theorem hits_out (d c : Dev nD) (l : List Instr) (k : Dir) (j : Fin 11) : hits d l (c, .dma false k j) = 0 := by
  unfold hits
  rw [List.countP_eq_zero]
  intro i _
  rw [decide_eq_true_eq]
  intro e
  cases i <;> cases e

/-- Over all devices, a cell is owed what its owner is due there. -/
theorem owed_due (c : Dev nD) (i : Cell) : ∑ d : Dev nD, owed d (script d) (kcell (c, i)) () = due c i := by
  rw [Finset.sum_congr rfl fun d _ => owed_at d (c, i) (script d)]
  cases i with
  | bar =>
    rw [← Finset.sum_mul, hits_bar]
    rfl
  | dma r k j =>
    cases r with
    | false =>
      rw [Finset.sum_eq_zero fun d _ => by rw [hits_out, Nat.zero_mul]]
      rfl
    | true =>
      rw [Finset.sum_eq_single (nbr k c) (fun d _ h => by rw [hits_other d c _ k j h, Nat.zero_mul]) (fun h => absurd (Finset.mem_univ _) h), hits_nbr]
      show (if used c true k j = true then 1 else 0) * N = if used c true k j = true then N else 0
      by_cases h : used c true k j = true
      · rw [if_pos h, if_pos h, Nat.one_mul]
      · rw [if_neg h, if_neg h, Nat.zero_mul]

/-- What device c owes at launch. -/
def owed₀ (c : Dev nD) : CellTallies nD τ sig Unit := owed c (script c)

/-- The launch's credit at a cell is what its owner is due there. -/
theorem launch_due (c : Dev nD) (i : Cell) :
    tallyOn (kcell (c, i)) (launchCredit (Pipeline.owing owed₀) 0 (kcell (c, i))) = (tallyAt (kcell (c, i)) () (due c i) : CellTallies nD τ sig Unit) := by
  unfold tallyAt
  refine congrArg _ (Finsupp.ext fun u => ?_)
  cases u
  rw [Pipeline.launchCredit_owing, Finsupp.single_eq_same]
  exact owed_due c i

/-- The launch's credit covers what device c waits for. -/
theorem creds_intro (c : Dev nD) : (Pipeline.launchCred owed₀ c : sProp 𝕄) ⊢ creds c := by
  unfold Pipeline.launchCred creds
  have e : (bigSep Finset.univ fun i : Cell => cred (tallyAt (kcell (c, i)) () (due c i)))
      = bigSep (Finset.univ.map ⟨semLoc, fun _ _ => semLoc_inj⟩) fun sm : SemLoc sig =>
        (cred (tallyOn ((c : Thread nD τ), sm) (launchCredit (Pipeline.owing owed₀) 0 ((c : Thread nD τ), sm))) : sProp 𝕄) := by
    rw [bigSep_map]
    exact bigSep_congr fun i _ => congrArg cred (launch_due c i).symm
  rw [e]
  exact bigSep_subset (Finset.subset_univ _)

/-! ## Waiting for the staging copies -/

/-- All that a script pays lies above level zero. -/
theorem above_script (c : Dev nD) : above c 0 (script c) = true := by revert c; decide +kernel

/-- A device may wait for a staging copy while it owes payments above level zero. -/
theorem mayWait_stage (c : Dev nD) (s : SemLoc sig) (hs : unsem s = none) (l : List Instr) (h : above c 0 l = true) :
    (levAts L lv : sProp 𝕄) ⊢ MayWait (c : Thread nD τ) s () (owed c l) :=
  mayWait c s 0 (le_of_eq (by show (match unsem s with | none => 0 | some i => level c i) = 0; rw [hs])) l h

end Cert.KernelIdeal.Sum

end
-- ==== Proof.KernelIdeal.Launch.lean ====
/-
  The launch. The eight devices' cells are set up, the tokens of the payments dealt to the devices that make them, and the
  run of the whole mesh follows: it ends, with the result of device c at `outF c`, its argument unchanged and every semaphore at zero.
-/
module

public import proofs.«01_k».proof.Proof.KernelIdeal.Credit
public import Idealize.ShloMosaic.Lib.Pipeline.Launch
public import Idealize.ShloMosaic.Lib.Pipeline.Kit
public import Idealize.ShloMosaic.Lib.Pipeline.CollectiveSegs

@[expose] public section

noncomputable section

namespace Cert.KernelIdeal.Sum

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- The staging of device c: what its two arrays hold at launch, what the body leaves staged, and what it starts and ends with. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outF m ρ c
  Φ t := match t with
    | ⟨0, _⟩ => iprop(begun m ρ c ∗ landing c)
    | ⟨_ + 1, _⟩ => iprop(zeros c ∗ landing c)
  q _ := fullShare
  owed t := match t with
    | ⟨0, _⟩ => owed₀ c
    | ⟨_ + 1, _⟩ => 0

/-- The argument is fetched. -/
theorem fetch_x (t : Fin cfg0.N) : (cfg0.win (0 : Fin 2)).fetch t = true := by rw [fin_N0 t]; rfl

/-- Owning a whole staging buffer at contents X is holding it at X. -/
theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns
  simp only [Memref.view_whole, View.read_whole, View.set_whole]

/-- A staging buffer holding X. -/
abbrev holds (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body of device c is called with. -/
def entry (c : Dev nD) : sProp 𝕄 :=
  iprop((begun m ρ c ∗ landing c) ∗ (dats m ρ 0 c).owesAt () t0_0.castSucc
    ∗ (∃ d, holds c cc0_stg0_0 ((dats m ρ 0 c).before (0 : Fin 2) t0_0 d))
    ∗ (∃ d, holds c cc0_stg1_0 ((dats m ρ 0 c).before (1 : Fin 2) t0_0 d)))
/-- What it must leave. -/
def exit (c : Dev nD) : sProp 𝕄 :=
  iprop((zeros c ∗ landing c) ∗ (dats m ρ 0 c).owesAt () t0_0.succ ∗ holds c cc0_stg0_0 (xstg m ρ c) ∗ holds c cc0_stg1_0 (outF m ρ c))

/-- The body takes the one to the other. -/
theorem body_entry_exit (c : Dev nD) : entry m ρ c ⊢ Runs c body fun _ => exit m ρ c := by
  unfold entry Dat.owesAt Pipeline.owesWithin
  iintro ⟨⟨Hb, Hl⟩, ⟨%W, %hW, HO⟩, ⟨%d0, %g0, %hg0, Hx⟩, ⟨%d1, %g1, %hg1, Ho⟩⟩
  have hx : g0 = xstg m ρ c := by
    rw [hg0]
    unfold Dat.before
    rw [if_pos (fetch_x t0_0)]
    rfl
  subst hx
  iapply (body_rule m ρ c g1 fun _ => exit m ρ c) $$ [Hb Hl HO Hx Ho]
  · isplitl [Hb]; · iexact Hb
    isplitl [HO]
    · unfold debt
      iexists W
      iexact HO
    isplitl [Hl]; · iexact Hl
    isplitl [Hx]; · iexact Hx
    iexact Ho
  unfold exit debt Dat.owesAt Pipeline.owesWithin
  iintro ⟨Hz, ⟨%W', HO⟩, Hl, Hx, Ho⟩
  isplitl [Hz Hl]
  · isplitl [Hz]; · iexact Hz
    iexact Hl
  isplitl [HO]
  · iexists W'
    isplitr; · ipureintro; exact fun _ _ => Or.inl trivial
    iexact HO
  isplitl [Hx]
  · iexists _
    isplitr; · (ipureintro; rfl)
    iexact Hx
  iexists _
  isplitr; · (ipureintro; rfl)
  iexact Ho

/-- What the launch asks of the body on device c. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  simp only [owns_stage]
  exact body_entry_exit m ρ c

/-! ## Setting the cells up -/

/-- The kernel's own semaphores. -/
abbrev osem (a : Arr) : SemLoc sig := .dma (sem a.1 a.2.1 a.2.2)

/-- The kernel's own semaphores are scoped to it, all different, and none is the staging's. -/
theorem ownSemFacts : Pipeline.OwnSemFacts cfg0.spec osem :=
  ⟨by decide +kernel, fun a b h => by
    have h : ofArr a = ofArr b := semLoc_inj h
    obtain ⟨r, k, j⟩ := a
    obtain ⟨r', k', j'⟩ := b
    cases h
    rfl, by decide +kernel⟩

/-- The arrays are held whole. -/
theorem share_eq (c : Dev nD) (w : Fin cfg0.W) : (dats m ρ 0 c).share w = fullShare := by
  unfold Dat.share
  split <;> rfl

/-- The cells of all devices. -/
def allCells : Finset (GSem nD τ sig) := Finset.univ.map ⟨kcell, kcell_inj⟩

/-- Different payments of any devices are different. -/
theorem tok_inj : Function.Injective fun x : Dev nD × (Dir ⊕ Arr) => tok x.1 x.2 := by
  have hb : ∀ k (c c' : Dev nD), nbr k c = nbr k c' → c = c' := fun k c c' h => by rw [← nbr_nbr k c, h, nbr_nbr]
  rintro ⟨c, k | ⟨r, k, j⟩⟩ ⟨c', k' | ⟨r', k', j'⟩⟩ h
  · have h1 := kcell_inj (congrArg (fun t : GSem nD τ sig × ℕ × Dir => t.1) h)
    have h2 : k = k' := congrArg (fun t : GSem nD τ sig × ℕ × Dir => t.2.2) h
    subst h2
    rw [hb k c c' (congrArg Prod.fst h1)]
  · exfalso
    cases r' <;> cases congrArg Prod.snd (kcell_inj (congrArg (fun t : GSem nD τ sig × ℕ × Dir => t.1) h))
  · exfalso
    cases r <;> cases congrArg Prod.snd (kcell_inj (congrArg (fun t : GSem nD τ sig × ℕ × Dir => t.1) h))
  · cases r <;> cases r' <;> have h1 := kcell_inj (congrArg (fun t : GSem nD τ sig × ℕ × Dir => t.1) h) <;>
      have h2 := congrArg Prod.fst h1 <;> cases congrArg Prod.snd h1
    · cases h2
      rfl
    · rw [hb k c c' h2]

/-- The payments of all devices. -/
def allToks : Finset (GSem nD τ sig × ℕ × Dir) := Finset.univ.map ⟨_, tok_inj⟩

/-- The launch's ghost state: the staging cells' and the kernel's own. -/
def u₀ : UU := (initOf (Pipeline.cells cfgs cellOf_inj) (Pipeline.launchToks cfgs cellOf_inj), initOf allCells allToks)

/-- What it deals device c. -/
def dealt (c : Dev nD) : sProp 𝕄 :=
  iprop((bigSep Finset.univ fun i : Cell => roundState ER (sched m ρ) (kcell (c, i)) 0)
    ∗ (bigSep Finset.univ fun i : Cell => reached ER (kcell (c, i)) 0) ∗ seats c ∗ toks c)

/-- What the joint step over all devices makes of it. -/
def ready (c : Dev nD) : sProp 𝕄 := iprop(∃ K, records m ρ K ∗ seats c ∗ toks c)

/-- The records, with a device's places and payments, are what it is ready with. -/
theorem ready_intro (K : Dev nD × Cell → ℕ) (c : Dev nD) : iprop(records m ρ K ∗ seats c ∗ toks c) ⊢ ready m ρ c := by
  unfold ready
  iintro H
  iexists K
  iexact H

/-- The launch's ghost state is what the devices are dealt. -/
theorem fund_cells : BI.own (ER (initOf allCells allToks)) ⊢ (|==> bigSep Finset.univ (dealt m ρ) : sProp 𝕄) := by
  have hX (Φ : GSem nD τ sig → sProp 𝕄) : bigSep allCells Φ = bigSep Finset.univ fun c : Dev nD => bigSep Finset.univ fun i : Cell => Φ (kcell (c, i)) := by
    unfold allCells
    rw [bigSep_map, bigSep_univ_prod]
    rfl
  have hT : bigSep allToks (fun x => (dutyTok ER x.1 x.2.1 x.2.2 : sProp 𝕄)) = bigSep Finset.univ fun c : Dev nD => toks c := by
    unfold allToks
    rw [bigSep_map, bigSep_univ_prod]
    rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt seats
  simp only [bigSep_sep']
  isplitl [Hst']; · iexact Hst'
  isplitl [Hr']; · iexact Hr'
  isplitl [Hat']; · iexact Hat'
  iexact Htok'

/-- The semaphore that is not the kernel's own is the barrier's. -/
theorem unscoped_eq (c : Dev nD) : (unscopedSems0 c : sProp 𝕄) = semVal (kcell (c, .bar)) 0 := by
  unfold unscopedSems0
  rw [bigSep_eq_bigSepL_of_eq [SemLoc.reg barS] (by decide +kernel) (by decide)]
  rfl

/-- The semaphores a launch gives a device are those of its cells. -/
theorem zeros_eq (c : Dev nD) :
    (zeros c : sProp 𝕄) = iprop(unscopedSems0 c ∗ Pipeline.ownSems0 (Ix := Unit) (Name := ℕ) (U := UU) (Lvl := ℕ) (Val := Elt F) (τ := τ) osem c) := by
  unfold zeros Pipeline.ownSems0
  rw [over_cells, unscoped_eq]

/-- A device's semaphores and what it is dealt make the invariants of its cells. -/
theorem alloc_cells (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun i => iprop(∃ κ : ℕ, cellInv ER (sched m ρ) κ (kcell (c, i))))
          ∗ (bigSep Finset.univ fun i : Cell => reached ER (kcell (c, i)) 0) ∗ seats c ∗ toks c) := by
  unfold dealt
  iintro ⟨Hos, Hus, Hst, Hr, Hat, Htok⟩
  ihave Hv := (Entails.of_eq (zeros_eq (F := F) c).symm) $$ [Hos Hus]
  · isplitl [Hus]; · iexact Hus
    iexact Hos
  imod (show iprop(zeros c ∗ bigSep Finset.univ fun i : Cell => roundState ER (sched m ρ) (kcell (c, i)) 0)
      ⊢ (|={Set.univ}=> bigSep Finset.univ fun i => iprop(∃ κ : ℕ, cellInv ER (sched m ρ) κ (kcell (c, i))) : sProp 𝕄) from by
        unfold zeros
        rw [← bigSep_sep']
        exact (bigSep_mono fun i _ => (Rounds.body_intro ER (sched m ρ) (kcell (c, i))).trans inv_alloc).trans (bigSep_fupd _ _)) $$ [Hv Hst] with Hinv
  · isplitl [Hv]; · iexact Hv
    iexact Hst
  imodintro
  isplitl [Hinv]; · iexact Hinv
  isplitl [Hr]; · iexact Hr
  isplitl [Hat]; · iexact Hat
  iexact Htok

/-- Every device gets to know every cell. -/
theorem share_cells :
    (bigSep Finset.univ fun c : Dev nD => iprop((bigSep Finset.univ fun i => iprop(∃ κ : ℕ, cellInv ER (sched m ρ) κ (kcell (c, i))))
          ∗ (bigSep Finset.univ fun i : Cell => reached ER (kcell (c, i)) 0) ∗ seats c ∗ toks c) : sProp 𝕄)
      ⊢ bigSep Finset.univ (ready m ρ) := by
  rw [bigSep_sep', bigSep_sep', ← bigSep_univ_prod (fun p : Dev nD × Cell => iprop(∃ κ : ℕ, cellInv ER (sched m ρ) κ (kcell p))),
    ← bigSep_univ_prod (fun p : Dev nD × Cell => (reached ER (kcell p) 0 : sProp 𝕄))]
  iintro ⟨HI, #HR, Hst⟩
  ihave HK := (BI.bigSep_exists_pi Finset.univ (fun (p : Dev nD × Cell) (κ : ℕ) => (cellInv ER (sched m ρ) κ (kcell p) : sProp 𝕄))) $$ HI
  icases HK with ⟨%K, #HI⟩
  iapply (show iprop(records m ρ K ∗ bigSep Finset.univ fun c : Dev nD => iprop(seats c ∗ toks c)) ⊢ bigSep Finset.univ (ready m ρ) from by
    refine (sep_mono_left (BI.bigSep_of_persistent (Finset.univ : Finset (Dev nD)) (records m ρ K))).trans ?_
    rw [← bigSep_sep']
    refine bigSep_mono fun c _ => ?_
    exact ready_intro m ρ K c)
  isplitr
  · unfold records
    isplitl; · iexact HI
    iexact HR
  iexact Hst

/-- All devices together get ready. -/
theorem glob :
    (bigSep Finset.univ fun c => iprop(Pipeline.ownSems0 (Ix := Unit) (Name := ℕ) (U := UU) (Lvl := ℕ) (Val := Elt F) (τ := τ) osem c
        ∗ unscopedSems0 c ∗ dealt m ρ c) : sProp 𝕄) ⊢ |={Set.univ}=> bigSep Finset.univ (ready m ρ) :=
  ((bigSep_mono fun c _ => alloc_cells m ρ c).trans (bigSep_fupd _ _)).trans (BI.fupd_mono (share_cells m ρ))

/-! ## The launch's side conditions -/

/-- What a device has at launch is what it begins with. -/
theorem begin_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ ready m ρ c)
      ⊢ |={Set.univ}=> iprop(begun m ρ c ∗ emp) := by
  unfold ready begun shared
  iintro ⟨-, #Hlev, Hcr, -, ⟨%K, #HR, Hse, Hto⟩⟩
  ihave Hc := (creds_intro (F := F) c) $$ Hcr
  imodintro
  isplitl
  · isplitl [Hse Hto]
    · iexists K
      isplitr
      · isplitl; · iexact HR
        iexact Hlev
      isplitl [Hse]; · iexact Hse
      iexact Hto
    iexact Hc
  · iempintro

/-- With the landing buffer, that is what the body starts with. -/
theorem first_intro (c : Dev nD) :
    iprop(begun m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(begun m ρ c ∗ landing c) from rfl, scopedRest0_eq]
  unfold landing
  iintro ⟨Hs, -, Hl⟩
  isplitl [Hs]; · iexact Hs
  iexact Hl

/-- What the body ends with gives the semaphores at zero and the landing buffer back. -/
theorem last_elim (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(zeros c ∗ landing c) from rfl, scopedRest0_eq, zeros_eq]
  unfold landing
  iintro ⟨⟨Hu, Ho⟩, Hl⟩
  isplitl [Hu]; · iexact Hu
  isplitl [Ho]; · iexact Ho
  iexact Hl

/-- The staging copies may be waited for. -/
theorem waits (c : Dev nD) : (levAts L lv : sProp 𝕄) ⊢ Pipeline.cellsWaits cfgs (dats m ρ) () 0 c :=
  Pipeline.cellsWaits_intro cfgs (dats m ρ) () 0 c fun w s t => by
    have hs : unsem (.dma ((cfg0.win w).sem s)) = none := by revert s; revert w; decide +kernel
    rcases t with ⟨_ | _, ht⟩
    · exact mayWait_stage c _ hs (script c) (above_script c)
    · exact mayWait_stage c _ hs [] rfl

/-! ## The run -/

/-- What array w of device c holds in the end. -/
def finalA (c : Dev nD) (w : Fin cfg0.W) : Buf (Elt F) ((cfg0.win w).arr.view.loc (c : Thread nD τ)) := (dats m ρ 0 c).arrAt w cfg0.N

/-- Every array of every device ends at these contents. -/
def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, every fair execution of the program on the eight devices ends, with each
    device's arrays as computed and every counter back at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := dealt m ρ) (G' := ready m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := begun m ρ) (Y := fun c => unscopedSems0 c) (Z := fun _ => iprop(emp))
    (hX := begin_intro m ρ) (hin := first_intro m ρ) (hout := last_elim m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument is left as it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Sum

end
-- ==== Proof.KernelIdeal.Result.lean ====
/-
  What the run leaves, with the staging taken away: device c's result array holds, at every entry, the sum of two argument blocks,
  that of the device in c's plane of the mesh that adds the entry's chunk and that of its z-partner.
-/
module

public import proofs.«01_k».proof.Proof.KernelIdeal.Launch
public import proofs.«01_k».proof.Proof.Gen.KernelIdeal.Points

@[expose] public section

noncomputable section

namespace Cert.KernelIdeal.Sum

open Idealize.ShloMosaic Idealize.ShloMosaic.TcCoe
open Idealize.SL.Sem
open Cert.KernelIdeal Cert.KernelIdeal.Gen

variable {F : FTy → Type} [FloatOps F]
variable (m : (ℓ : Loc nD τ sig) → Buf (Elt F) ℓ) (ρ : Dev nD → PrngReg)

/-- Reading the argument's only block reads the whole array. -/
theorem read_arg (f : (main_arg0 : Ref sig .tc).ty.Contents (Elt F)) : (win0_0.blk (0 : Fin 1)).view.read (Elt F) f = f :=
  Memref.read_access_unit_zero (Elt F) main_arg0 (funext fun a => Nat.zero_mul _) (fun a => by fin_cases a <;> decide) f

/-- Reading the result's only block reads the whole array. -/
theorem read_result (f : (main_v1 : Ref sig .tc).ty.Contents (Elt F)) : (win0_1.blk (0 : Fin 1)).view.read (Elt F) f = f :=
  Memref.read_access_unit_zero (Elt F) main_v1 (funext fun a => Nat.zero_mul _) (fun a => by fin_cases a <;> decide) f

/-- The staged block of device c is its argument. -/
theorem xstg_eq (c : Dev nD) : xstg m ρ c = m ((c : Thread nD τ).loc main_arg0) := read_arg _

/-- The result array, in the end, is what the body left staged. -/
theorem finalA_o (c : Dev nD) : finalA m ρ c (1 : Fin 2) = outF m ρ c := by
  have h : (win0_1.blk (0 : Fin 1)).view.read (Elt F) (finalA m ρ c (1 : Fin 2)) = outF m ρ c := by
    unfold finalA
    rw [show cfg0.N = ((0 : Fin 1) : Fin cfg0.N).val + 1 from rfl, (dats m ρ 0 c).arrAt_succ (1 : Fin 2) (0 : Fin 1),
      if_pos (flush0_1 (0 : Fin 1))]
    exact View.read_write_univ _ _
  exact (read_result _).symm.trans h

/-- The sum of the blocks of device o and its z-partner at entry i. -/
def blockSum (o : Dev nD) (i : S8192x1024.Idx) : Elt F .bf16 :=
  (FloatOps.addf (F := F) (φ := .bf16) (m ((o : Thread nD τ).loc main_arg0) i) (m ((nbr .z o : Thread nD τ).loc main_arg0) i) : F .bf16)

/-- Every execution ends, with the result of each device the sums of the owners of its chunks, its argument
    as it was and all counters at zero. -/
theorem run_values :
    θ_run defs (onTc (τ := τ) (main (F := F))) ⟨m, fun _ => 0, ρ⟩ fun r =>
      (∀ c : Dev nD, r.2.mem ((c : Thread nD τ).loc main_v1) = (fun i => blockSum m (owner c (chunkO i)) i)
        ∧ r.2.mem ((c : Thread nD τ).loc main_arg0) = m ((c : Thread nD τ).loc main_arg0))
      ∧ r.2.sem = fun _ => 0 :=
  (θ_run defs _ _).mono (fun r h => ⟨fun c => ⟨by
      refine (h.1 c (1 : Fin 2)).trans ((finalA_o m ρ c).trans ?_)
      funext i
      unfold outF pairSum blockSum
      rw [xstg_eq, xstg_eq], (h.1 c (0 : Fin 2)).trans (finalA_x m ρ c)⟩, h.2⟩) (run_main m ρ)

end Cert.KernelIdeal.Sum

end
-- ==== Proof.Value.Reference.lean ====
/-
  The reference's value at the extended reals. It cuts the rows of its argument into two halves and adds them; the change to a
  wider format before the sum and back after it leaves an extended real as it is, and the sum starts from zero.
-/
module

public import proofs.«01_k».proof.Proof.Gen.ReferenceIdeal.Run
public import Idealize.ShloMosaic.Lib.Pipeline.Value
public import Idealize.ShloMosaic.Lib.ValueIdx
public import Idealize.ShloMosaic.Lib.Pointwise.Reduce

@[expose] public section

noncomputable section

namespace Cert.ReferenceIdeal.Halves

open Idealize.ShloMosaic Idealize.ShloMosaic.TcCoe Idealize.SL.Sem
open Cert.ReferenceIdeal Cert.ReferenceIdeal.Gen

/-- Entry i of half h of the rows, as an entry of the whole array. -/
def inHalf (h : Fin 2) (i : S8192x1024.Idx) : S16384x1024.Idx := fun a => match a with
  | 0 => ⟨h.val * 8192 + (i 0).val, by have h0 : (i 0).val < 8192 := (i 0).isLt; have := h.isLt; show _ < 16384; omega⟩
  | 1 => i 1

/-- The array of the sums of the two halves. -/
def halvesSum (x : S16384x1024.Idx → EReal) : S8192x1024.Idx → EReal := fun i => x (inHalf 0 i) + x (inHalf 1 i)

/-- The rows cut into two halves: entry (h, i₀, i₁) is entry (i₀, i₁) of half h. -/
theorem reshape_at (x : S16384x1024.Idx → EReal) (hc : S16384x1024.ShapeCasts S2x8192x1024) (i : S8192x1024.Idx) (h : Fin 2)
    (j : S2x8192x1024.Idx) (h0 : (j 0).val = h.val) (h1 : (j 1).val = (i 0).val) (h2 : (j 2).val = (i 1).val) :
    shapeCast S2x8192x1024 x hc j = x (inHalf h i) := by
  refine shapeCast_apply x hc j (inHalf h i) ?_
  have e1 : (S16384x1024.rowMajor (inHalf h i)).val = (inHalf h i 0).val * 1024 + (inHalf h i 1).val := Shape.rowMajor_val_two _
  have e2 : (S2x8192x1024.rowMajor j).val = ((j 0).val * 8192 + (j 1).val) * 1024 + (j 2).val := Shape.rowMajor_val_three _
  rw [e1, e2, h0, h1, h2]
  rfl

/-- The term the reference's result holds is the sum of the halves. -/
theorem value (x : FVec Ideal S16384x1024 .bf16) :
    truncf .bf16 (Host.reduceAdd (F := Ideal) (extf .f32 (shapeCast S2x8192x1024 x shapeCasts_S16384x1024_S2x8192x1024) bitsLt_bf16_f32)
      (constant S_ .f32 0x00000000#32) reducesTo_S2x8192x1024_S8192x1024_d0 h_S_) bitsLt_bf16_f32 = halvesSum x := by
  funext i
  show Host.reduceAdd (F := Ideal) _ _ _ _ i = _
  rw [Host.reduceAdd_apply, Ideal.hostReduceAdd_def]
  refine (Ideal.hostReduceAdd_r3_a0 _ _ _ i).trans ?_
  rw [Fin.sum_univ_two]
  show Ideal.ofBits .f32 0x00000000#32 + (shapeCast S2x8192x1024 x _ _ + shapeCast S2x8192x1024 x _ _) = _
  rw [Ideal.ofBits_zero_f32, zero_add, reshape_at x _ i 0 _ rfl rfl rfl, reshape_at x _ i 1 _ rfl rfl rfl]
  rfl

/-- The reference ends with the sums of the halves of its argument, which it leaves as it was. -/
theorem run_halves (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = halvesSum (m ((c : Thread nD τ).loc main_arg0))
      ∧ r.2.mem ((c : Thread nD τ).loc main_arg0) = m ((c : Thread nD τ).loc main_arg0) :=
  (θ_run defs _ _).mono (fun r h c => ⟨(h c).1.trans (value _), (h c).2⟩) (Value.run m ρ)

end Cert.ReferenceIdeal.Halves

end
-- ==== Proof.Value.Equation.lean ====
/-
  Kernel and reference agree at the extended reals. Device c holds the half of the rows that its z coordinate, the lowest bit of its
  id, names. A device and its z-partner hold the two halves between them, so the sum of their blocks is the sum of the halves,
  whichever of the two is named first: which device adds a chunk does not matter.
-/
module

public import proofs.«01_k».proof.Proof.KernelIdeal.Result
public import proofs.«01_k».proof.Proof.Value.Reference

@[expose] public section

noncomputable section

namespace Cert.Proof.Equation

open Idealize.ShloMosaic Idealize.ShloMosaic.TcCoe
open Cert.KernelIdeal Cert.KernelIdeal.Sum
open Cert.ReferenceIdeal.Halves (inHalf halvesSum)

variable (m : (ℓ : Loc nD τ sig) → Buf (Elt Ideal) ℓ) (x : (⟨2, ![16384, 1024]⟩ : Shape).Idx → EReal)

/-- The half of the rows that device c holds. -/
def half (c : Dev nD) : Fin 2 := ⟨c.val % 2, Nat.mod_lt _ (by decide)⟩

/-- The block of the mesh that device c holds is half c. -/
theorem block_at (c : Dev nD) :
    Layout.blockN ⟨2, ![8192, 1024]⟩ ⟨2, ![16384, 1024]⟩ (Layout.meshBlock [2, 2, 2] ![[2], []] c) x = fun i => x (inHalf (half c) i) := by
  funext i
  rw [Layout.blockN_apply]
  refine congrArg x (funext fun a => Fin.ext ?_)
  have hz : ∀ c : Dev nD, Layout.meshLin [2, 2, 2] c.val [2] = c.val % 2 := by decide
  rw [Layout.TilesN.idx_val, Layout.meshBlock_val]
  fin_cases a
  · show Layout.meshLin [2, 2, 2] c.val [2] * 8192 + (i 0).val = c.val % 2 * 8192 + (i 0).val
    rw [hz]
  · show Layout.meshLin [2, 2, 2] c.val [] * 1024 + (i 1).val = (i 1).val
    rw [show Layout.meshLin [2, 2, 2] c.val [] = 0 from rfl, Nat.zero_mul, Nat.zero_add]

/-- The z-partner of a device holds the other half. -/
theorem half_partner (c : Dev nD) : half c = 0 ∧ half (nbr .z c) = 1 ∨ half c = 1 ∧ half (nbr .z c) = 0 := by
  revert c; decide

/-- If every device holds its block of x, the sum of the blocks of a device and its partner is the sum of the halves of x. -/
theorem blockSum_eq
    (h : ∀ c : Dev nD, m ((c : Thread nD τ).loc main_arg0)
      = Layout.blockN ⟨2, ![8192, 1024]⟩ ⟨2, ![16384, 1024]⟩ (Layout.meshBlock [2, 2, 2] ![[2], []] c) x)
    (o : Dev nD) (i : (⟨2, ![8192, 1024]⟩ : Shape).Idx) : blockSum m o i = halvesSum x i := by
  unfold blockSum halvesSum
  rw [h o, h (nbr .z o), block_at, block_at]
  rcases half_partner o with ⟨h1, h2⟩ | ⟨h1, h2⟩ <;> rw [h1, h2]
  · rfl
  · exact add_comm (x (inHalf 1 i)) (x (inHalf 0 i))

end Cert.Proof.Equation

end
-- ==== Proof.lean ====
/-
  The five claims. Both readings of the program run to an end with every counter at zero and the argument as it was (`frame`s), the
  reference likewise; the program read at the extended reals is the program's own text; and there its result, on every
  device, is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Result
public import proofs.«01_k».proof.Proof.KernelIdeal.Result
public import proofs.«01_k».proof.Proof.Value.Equation
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel, on the machine's floats, runs to an end on every device, its argument unchanged and its counters at zero. -/
theorem frame_kernel : Cert.quiescent_Kernel := fun m ρ _ =>
  (θ_run _ _ _).mono (fun _ h => ⟨fun c => (h.1 c).2, h.2⟩) (Cert.Kernel.Sum.run_values (F := Bits) m ρ)

/-- So does the kernel on the extended reals. -/
theorem frame_kernel_ideal : Cert.quiescent_KernelIdeal := fun m ρ _ =>
  (θ_run _ _ _).mono (fun _ h => ⟨fun c => (h.1 c).2, h.2⟩) (Cert.KernelIdeal.Sum.run_values (F := Ideal) m ρ)

/-- So does the reference on the extended reals. -/
theorem frame_reference_ideal : Cert.quiescent_ReferenceIdeal := fun m ρ _ =>
  (θ_run _ _ _).mono (fun r h => ⟨fun c => (h c).2, sem_eq_zero_of_no_sems (by decide) r.2⟩)
    (Cert.ReferenceIdeal.Halves.run_halves m ρ)

/-- On the extended reals, when each device holds its half of the rows of the reference's argument, every device ends
    with the whole of the reference's result. -/
theorem equal_reference : Cert.algebraic_KernelIdeal_ReferenceIdeal := by
  intro m ρ m' ρ' _ h
  refine ⟨Cert.ReferenceIdeal.Halves.halvesSum
    (m' (((0 : Dev Cert.ReferenceIdeal.nD).tc : Thread _ Cert.ReferenceIdeal.τ).loc Cert.ReferenceIdeal.main_arg0)), ?_, ?_⟩
  · exact (θ_run _ _ _).mono (fun _ hr c => ⟨(hr.1 c).1.trans (funext fun i => Equation.blockSum_eq m _ h _ i), (hr.1 c).2⟩)
      (Cert.KernelIdeal.Sum.run_values (F := Ideal) m ρ)
  · exact (θ_run _ _ _).mono (fun _ hr => hr 0) (Cert.ReferenceIdeal.Halves.run_halves m' ρ')

theorem claim : Cert.Claim :=
  ⟨Cert.Kernel.Gen.facts, Cert.KernelIdeal.Gen.facts, Cert.ReferenceIdeal.Gen.facts,
    frame_kernel, frame_kernel_ideal, frame_reference_ideal, trivial, equal_reference⟩

end Cert.Proof

end
